-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  IdealRules.named_const.Statement Cert.Kernel2Ideal.κ "rsqrt2" .f32 0x3F3504F3#32 (((Real.sqrt 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v81_0)) (v1 : (c : Dev Cert.Kernel2Ideal.nD) → Buf (Elt Ideal) ((c.tc : Thread Cert.Kernel2Ideal.nD Cert.Kernel2Ideal.τ).loc Cert.Kernel2Ideal.main_v81_1)) (v2 : (c : Dev Cert.Kernel2Ideal.nD) → Buf (Elt Ideal) ((c.tc : Thread Cert.Kernel2Ideal.nD Cert.Kernel2Ideal.τ).loc Cert.Kernel2Ideal.main_v81_2)) (v3 : (c : Dev Cert.Kernel2Ideal.nD) → Buf (Elt Ideal) ((c.tc : Thread Cert.Kernel2Ideal.nD Cert.Kernel2Ideal.τ).loc Cert.Kernel2Ideal.main_v81_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v81_0) = v0 c
          ∧ r.2.mem ((c.tc : Thread Cert.Kernel2Ideal.nD Cert.Kernel2Ideal.τ).loc Cert.Kernel2Ideal.main_v81_1) = v1 c
          ∧ r.2.mem ((c.tc : Thread Cert.Kernel2Ideal.nD Cert.Kernel2Ideal.τ).loc Cert.Kernel2Ideal.main_v81_2) = v2 c
          ∧ r.2.mem ((c.tc : Thread Cert.Kernel2Ideal.nD Cert.Kernel2Ideal.τ).loc Cert.Kernel2Ideal.main_v81_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v148) = v0 c
          ∧ r.2.mem ((c.tc : Thread Cert.Reference2Ideal.nD Cert.Reference2Ideal.τ).loc Cert.Reference2Ideal.main_v150) = v1 c
          ∧ r.2.mem ((c.tc : Thread Cert.Reference2Ideal.nD Cert.Reference2Ideal.τ).loc Cert.Reference2Ideal.main_v152) = v2 c
          ∧ r.2.mem ((c.tc : Thread Cert.Reference2Ideal.nD Cert.Reference2Ideal.τ).loc Cert.Reference2Ideal.main_v154) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  IdealRules.bf16_pair.BufferStatement Cert.Kernel3Ideal.S32768x2x512 Cert.Kernel3Ideal.S32768x1x512
  ∧ IdealRules.bf16_pair.BufferStatement Cert.Kernel3Ideal.S512x2x512 Cert.Kernel3Ideal.S512x1x512
  ∧ IdealRules.bf16_pair.PackStatement Cert.Kernel3Ideal.S512x512
  ∧ IdealRules.bf16_pair.Statement Cert.Kernel3Ideal.S512x2x512 Cert.Kernel3Ideal.S512x1x512

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v36_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v36_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S16x2048x512 : Shape := ⟨3, ![16, 2048, 512]⟩
abbrev S1x64 : Shape := ⟨2, ![1, 64]⟩
abbrev S1x128 : Shape := ⟨2, ![1, 128]⟩
abbrev S_ : Shape := ⟨0, ![]⟩

class Facts : Prop where
  bcast_S_S1x64 : S_.BroadcastsInDim S1x64 (![] : Fin 0 → Fin S1x64.rank)
  bcast_S_S16x2048x512 : S_.BroadcastsInDim S16x2048x512 (![] : Fin 0 → Fin S16x2048x512.rank)

variable [Facts]

def fn_part1 {F : FTy → Type} [FloatOps F] (main_arg2 : FVec F S16x2048x512 .f32) (main_v14 : IVec S1x64 1) (main_v17 : IVec S16x2048x512 1) (main_v18 : FVec F S16x2048x512 .f32) : IVec S16x2048x512 1 × IVec S1x64 1 :=
  let main_cst_4 : FVec F S_ .f32 := constant S_ .f32 0x7F800000#32
  let main_v19 : FVec F S16x2048x512 .f32 := broadcastInDim S16x2048x512 ![] bcast_S_S16x2048x512 main_cst_4
  let main_v20 : IVec S16x2048x512 1 := cmpf .olt main_v18 main_v19
  let main_v21 : IVec S16x2048x512 1 := andi main_v17 main_v20
  let main_v22 : FVec F S16x2048x512 .f32 := Host.absf main_arg2
  let main_cst_5 : FVec F S_ .f32 := constant S_ .f32 0x7F800000#32
  let main_v23 : FVec F S16x2048x512 .f32 := broadcastInDim S16x2048x512 ![] bcast_S_S16x2048x512 main_cst_5
  let main_v24 : IVec S16x2048x512 1 := cmpf .olt main_v22 main_v23
  let main_v25 : IVec S16x2048x512 1 := andi main_v21 main_v24
  (main_v25, main_v14)

def fn {F : FTy → Type} [FloatOps F] (main_arg0 : FVec F S16x2048x512 .f32) (main_arg1 : FVec F S16x2048x512 .f32) (main_arg2 : FVec F S16x2048x512 .f32) (main_arg3 : FVec F S1x64 .f32) (main_arg4 : FVec F S1x64 .f32) (main_arg5 : FVec F S1x64 .f32) (main_arg6 : FVec F S1x64 .f32) (main_arg7 : FVec F S1x128 .f32) : IVec S16x2048x512 1 × IVec S1x64 1 :=
  let main_v0 : FVec F S1x64 .f32 := Host.absf main_arg3
  let main_cst : FVec F S_ .f32 := constant S_ .f32 0x7F800000#32
  let main_v1 : FVec F S1x64 .f32 := broadcastInDim S1x64 ![] bcast_S_S1x64 main_cst
  let main_v2 : IVec S1x64 1 := cmpf .olt main_v0 main_v1
  let main_v3 : FVec F S1x64 .f32 := Host.absf main_arg4
  let main_cst_0 : FVec F S_ .f32 := constant S_ .f32 0x7F800000#32
  let main_v4 : FVec F S1x64 .f32 := broadcastInDim S1x64 ![] bcast_S_S1x64 main_cst_0
  let main_v5 : IVec S1x64 1 := cmpf .olt main_v3 main_v4
  let main_v6 : IVec S1x64 1 := andi main_v2 main_v5
  let main_v7 : FVec F S1x64 .f32 := Host.absf main_arg5
  let main_cst_1 : FVec F S_ .f32 := constant S_ .f32 0x7F800000#32
  let main_v8 : FVec F S1x64 .f32 := broadcastInDim S1x64 ![] bcast_S_S1x64 main_cst_1
  let main_v9 : IVec S1x64 1 := cmpf .olt main_v7 main_v8
  let main_v10 : IVec S1x64 1 := andi main_v6 main_v9
  let main_v11 : FVec F S1x64 .f32 := Host.absf main_arg6
  let main_cst_2 : FVec F S_ .f32 := constant S_ .f32 0x7F800000#32
  let main_v12 : FVec F S1x64 .f32 := broadcastInDim S1x64 ![] bcast_S_S1x64 main_cst_2
  let main_v13 : IVec S1x64 1 := cmpf .olt main_v11 main_v12
  let main_v14 : IVec S1x64 1 := andi main_v10 main_v13
  let main_v15 : FVec F S16x2048x512 .f32 := Host.absf main_arg0
  let main_cst_3 : FVec F S_ .f32 := constant S_ .f32 0x7F800000#32
  let main_v16 : FVec F S16x2048x512 .f32 := broadcastInDim S16x2048x512 ![] bcast_S_S16x2048x512 main_cst_3
  let main_v17 : IVec S16x2048x512 1 := cmpf .olt main_v15 main_v16
  let main_v18 : FVec F S16x2048x512 .f32 := Host.absf main_arg1
  fn_part1 (F := F) main_arg2 main_v14 main_v17 main_v18
-- ==== Kernel.lean ====
abbrev S16x2048x512 : Shape := ⟨3, ![16, 2048, 512]⟩
abbrev S1x64 : Shape := ⟨2, ![1, 64]⟩
abbrev S1x128 : Shape := ⟨2, ![1, 128]⟩
abbrev S16x2048x1024 : Shape := ⟨3, ![16, 2048, 1024]⟩
abbrev S64 : Shape := ⟨1, ![64]⟩
abbrev S4x64 : Shape := ⟨2, ![4, 64]⟩
abbrev S128 : Shape := ⟨1, ![128]⟩
abbrev S1x2048x256 : Shape := ⟨3, ![1, 2048, 256]⟩
abbrev S2x2048x256 : Shape := ⟨3, ![2, 2048, 256]⟩
abbrev S1 : Shape := ⟨1, ![1]⟩
abbrev S1x1 : Shape := ⟨2, ![1, 1]⟩
abbrev S256x256 : Shape := ⟨2, ![256, 256]⟩
abbrev S1x2048x128 : Shape := ⟨3, ![1, 2048, 128]⟩
abbrev S2048x128 : Shape := ⟨2, ![2048, 128]⟩
abbrev S1x256x128 : Shape := ⟨3, ![1, 256, 128]⟩
abbrev S256x128 : Shape := ⟨2, ![256, 128]⟩
abbrev S1x256x256 : Shape := ⟨3, ![1, 256, 256]⟩
abbrev S256 : Shape := ⟨1, ![256]⟩
abbrev S256x1 : Shape := ⟨2, ![256, 1]⟩
abbrev S1x512x128 : Shape := ⟨3, ![1, 512, 128]⟩
abbrev S512x128 : Shape := ⟨2, ![512, 128]⟩
abbrev S256x512 : Shape := ⟨2, ![256, 512]⟩
abbrev S1x512x256 : Shape := ⟨3, ![1, 512, 256]⟩
abbrev S512x256 : Shape := ⟨2, ![512, 256]⟩
abbrev S1x768x128 : Shape := ⟨3, ![1, 768, 128]⟩
abbrev S768x128 : Shape := ⟨2, ![768, 128]⟩
abbrev S256x768 : Shape := ⟨2, ![256, 768]⟩
abbrev S1x768x256 : Shape := ⟨3, ![1, 768, 256]⟩
abbrev S768x256 : Shape := ⟨2, ![768, 256]⟩
abbrev S1x1024x128 : Shape := ⟨3, ![1, 1024, 128]⟩
abbrev S1024x128 : Shape := ⟨2, ![1024, 128]⟩
abbrev S256x1024 : Shape := ⟨2, ![256, 1024]⟩
abbrev S1x1024x256 : Shape := ⟨3, ![1, 1024, 256]⟩
abbrev S1024x256 : Shape := ⟨2, ![1024, 256]⟩
abbrev S1x1280x128 : Shape := ⟨3, ![1, 1280, 128]⟩
abbrev S1280x128 : Shape := ⟨2, ![1280, 128]⟩
abbrev S256x1280 : Shape := ⟨2, ![256, 1280]⟩
abbrev S1x1280x256 : Shape := ⟨3, ![1, 1280, 256]⟩
abbrev S1280x256 : Shape := ⟨2, ![1280, 256]⟩
abbrev S1x1536x128 : Shape := ⟨3, ![1, 1536, 128]⟩
abbrev S1536x128 : Shape := ⟨2, ![1536, 128]⟩
abbrev S256x1536 : Shape := ⟨2, ![256, 1536]⟩
abbrev S1x1536x256 : Shape := ⟨3, ![1, 1536, 256]⟩
abbrev S1536x256 : Shape := ⟨2, ![1536, 256]⟩
abbrev S1x1792x128 : Shape := ⟨3, ![1, 1792, 128]⟩
abbrev S1792x128 : Shape := ⟨2, ![1792, 128]⟩
abbrev S256x1792 : Shape := ⟨2, ![256, 1792]⟩
abbrev S1x1792x256 : Shape := ⟨3, ![1, 1792, 256]⟩
abbrev S1792x256 : Shape := ⟨2, ![1792, 256]⟩

abbrev nBuf : Space → Nat
  | .hbm => 23
  | .vmem => 11
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x512, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S16x2048x1024, .f32⟩
  | .hbm, ⟨9, _⟩ => ⟨S16x2048x1024, .bf16⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S4x64, .f32⟩
  | .hbm, ⟨19, _⟩ => ⟨S128, .f32⟩
  | .hbm, ⟨20, _⟩ => ⟨S1x128, .f32⟩
  | .hbm, ⟨21, _⟩ => ⟨S16x2048x512, .bf16⟩
  | .hbm, ⟨22, _⟩ => ⟨S16x2048x512, .bf16⟩
  | .local _ .vmem, ⟨0, _⟩ => ⟨S4x64, .f32⟩
  | .local _ .vmem, ⟨1, _⟩ => ⟨S1x128, .f32⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x2048x256, .bf16⟩
  | .local _ .vmem, ⟨9, _⟩ => ⟨S1x2048x256, .bf16⟩
  | .local _ .vmem, ⟨10, _⟩ => ⟨S2x2048x256, .bf16⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S16x2048x512 : Shape := ⟨3, ![16, 2048, 512]⟩
abbrev S1x64 : Shape := ⟨2, ![1, 64]⟩
abbrev S1x128 : Shape := ⟨2, ![1, 128]⟩
abbrev S16x2048x4x2x64 : Shape := ⟨5, ![16, 2048, 4, 2, 64]⟩
abbrev S16x2048x4x128 : Shape := ⟨4, ![16, 2048, 4, 128]⟩
abbrev S64 : Shape := ⟨1, ![64]⟩
abbrev S_ : Shape := ⟨0, ![]⟩
abbrev S16x4x2x2048x2048 : Shape := ⟨5, ![16, 4, 2, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x4x2x2048 : Shape := ⟨4, ![16, 4, 2, 2048]⟩
abbrev S16x4x2x2048x1 : Shape := ⟨5, ![16, 4, 2, 2048, 1]⟩
abbrev S16x4x1x2048x2048 : Shape := ⟨5, ![16, 4, 1, 2048, 2048]⟩
abbrev S16x4x2048x2048 : Shape := ⟨4, ![16, 4, 2048, 2048]⟩
abbrev S16x4x128x2048 : Shape := ⟨4, ![16, 4, 128, 2048]⟩
abbrev S16x2048x4 : Shape := ⟨3, ![16, 2048, 4]⟩
abbrev S16x2048x4x1 : Shape := ⟨4, ![16, 2048, 4, 1]⟩
abbrev S128 : Shape := ⟨1, ![128]⟩
abbrev S1x1x1x128 : Shape := ⟨4, ![1, 1, 1, 128]⟩

abbrev nBuf : Space → Nat
  | .hbm => 83
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x512, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S16x2048x4x2x64, .f32⟩
  | .hbm, ⟨9, _⟩ => ⟨S16x2048x4x2x64, .f32⟩
  | .hbm, ⟨10, _⟩ => ⟨S16x2048x4x128, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S16x4x2x2048x2048, .f32⟩
  | .hbm, ⟨27, _⟩ => ⟨S2048, .i32⟩
  | .hbm, ⟨28, _⟩ => ⟨S1x2048, .i32⟩
  | .hbm, ⟨29, _⟩ => ⟨S2048x1, .i32⟩
  | .hbm, ⟨30, _⟩ => ⟨S2048x2048, .i32⟩
  | .hbm, ⟨31, _⟩ => ⟨S2048x2048, .i32⟩
  | .hbm, ⟨32, _⟩ => ⟨S2048x2048, .i1⟩
  | .hbm, ⟨33, _⟩ => ⟨S_, .f32⟩
  | .hbm, ⟨34, _⟩ => ⟨S_, .f32⟩
  | .hbm, ⟨35, _⟩ => ⟨S16x4x2x2048x2048, .i1⟩
  | .hbm, ⟨36, _⟩ => ⟨S16x4x2x2048x2048, .f32⟩
  | .hbm, ⟨37, _⟩ => ⟨S16x4x2x2048x2048, .f32⟩
  | .hbm, ⟨38, _⟩ => ⟨S_, .f32⟩
  | .hbm, ⟨39, _⟩ => ⟨S16x4x2x2048, .f32⟩
  | .hbm, ⟨40, _⟩ => ⟨S_, .f32⟩
  | .hbm, ⟨41, _⟩ => ⟨S16x4x2x2048, .f32⟩
  | .hbm, ⟨42, _⟩ => ⟨S16x4x2x2048, .f32⟩
  | .hbm, ⟨43, _⟩ => ⟨S16x4x2x2048x1, .f32⟩
  | .hbm, ⟨44, _⟩ => ⟨S16x4x2x2048x2048, .f32⟩
  | .hbm, ⟨45, _⟩ => ⟨S16x4x2x2048x2048, .f32⟩
  | .hbm, ⟨46, _⟩ => ⟨S16x4x2x2048x2048, .f32⟩
  | .hbm, ⟨47, _⟩ => ⟨S_, .f32⟩
  | .hbm, ⟨48, _⟩ => ⟨S16x4x2x2048, .f32⟩
  | .hbm, ⟨49, _⟩ => ⟨S16x4x2x2048x1, .f32⟩
  | .hbm, ⟨50, _⟩ => ⟨S16x4x2x2048x2048, .f32⟩
  | .hbm, ⟨51, _⟩ => ⟨S16x4x2x2048x2048, .f32⟩
  | .hbm, ⟨52, _⟩ => ⟨S16x4x1x2048x2048, .f32⟩
  | .hbm, ⟨53, _⟩ => ⟨S16x4x2048x2048, .f32⟩
  | .hbm, ⟨54, _⟩ => ⟨S16x4x1x2048x2048, .f32⟩
  | .hbm, ⟨55, _⟩ => ⟨S16x4x2048x2048, .f32⟩
  | .hbm, ⟨56, _⟩ => ⟨S16x4x2048x2048, .f32⟩
  | .hbm, ⟨57, _⟩ => ⟨S16x4x2048x2048, .f32⟩
  | .hbm, ⟨58, _⟩ => ⟨S16x4x2048x2048, .f32⟩
  | .hbm, ⟨59, _⟩ => ⟨S16x4x128x2048, .f32⟩
  | .hbm, ⟨60, _⟩ => ⟨S16x2048x4x128, .f32⟩
  | .hbm, ⟨61, _⟩ => ⟨S16x2048x4x128, .f32⟩
  | .hbm, ⟨62, _⟩ => ⟨S_, .f32⟩
  | .hbm, ⟨63, _⟩ => ⟨S16x2048x4, .f32⟩
  | .hbm, ⟨64, _⟩ => ⟨S16x2048x4x1, .f32⟩
  | .hbm, ⟨65, _⟩ => ⟨S_, .f32⟩
  | .hbm, ⟨66, _⟩ => ⟨S16x2048x4x1, .f32⟩
  | .hbm, ⟨67, _⟩ => ⟨S16x2048x4x1, .f32⟩
  | .hbm, ⟨68, _⟩ => ⟨S_, .f32⟩
  | .hbm, ⟨69, _⟩ => ⟨S16x2048x4x1, .f32⟩
  | .hbm, ⟨70, _⟩ => ⟨S16x2048x4x1, .f32⟩
  | .hbm, ⟨71, _⟩ => ⟨S16x2048x4x1, .f32⟩
  | .hbm, ⟨72, _⟩ => ⟨S16x2048x4x128, .f32⟩
  | .hbm, ⟨73, _⟩ => ⟨S16x2048x4x128, .f32⟩
  | .hbm, ⟨74, _⟩ => ⟨S128, .f32⟩
  | .hbm, ⟨75, _⟩ => ⟨S1x1x1x128, .f32⟩
  | .hbm, ⟨76, _⟩ => ⟨S16x2048x4x128, .f32⟩
  | .hbm, ⟨77, _⟩ => ⟨S16x2048x4x128, .f32⟩
  | .hbm, ⟨78, _⟩ => ⟨S_, .f32⟩
  | .hbm, ⟨79, _⟩ => ⟨S16x2048x4x128, .f32⟩
  | .hbm, ⟨80, _⟩ => ⟨S16x2048x4x128, .f32⟩
  | .hbm, ⟨81, _⟩ => ⟨S16x2048x512, .f32⟩
  | .hbm, ⟨82, _⟩ => ⟨S16x2048x512, .bf16⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x2048 : Shape := ⟨2, ![16, 2048]⟩
abbrev S1x1024 : Shape := ⟨2, ![1, 1024]⟩
abbrev S1x1024x2560 : Shape := ⟨3, ![1, 1024, 2560]⟩
abbrev S1x64 : Shape := ⟨2, ![1, 64]⟩
abbrev S1x512 : Shape := ⟨2, ![1, 512]⟩
abbrev S64x1x512 : Shape := ⟨3, ![64, 1, 512]⟩
abbrev S8 : Shape := ⟨1, ![8]⟩
abbrev S_ : Shape := ⟨0, ![]⟩
abbrev S128 : Shape := ⟨1, ![128]⟩
abbrev S1x128 : Shape := ⟨2, ![1, 128]⟩
abbrev S32 : Shape := ⟨1, ![32]⟩
abbrev S32x1 : Shape := ⟨2, ![32, 1]⟩
abbrev S32x128 : Shape := ⟨2, ![32, 128]⟩
abbrev S32x384 : Shape := ⟨2, ![32, 384]⟩
abbrev S8x1 : Shape := ⟨2, ![8, 1]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S32768x1024 : Shape := ⟨2, ![32768, 1024]⟩
abbrev S64 : Shape := ⟨1, ![64]⟩
abbrev S8x64 : Shape := ⟨2, ![8, 64]⟩
abbrev S512 : Shape := ⟨1, ![512]⟩
abbrev S1024 : Shape := ⟨1, ![1024]⟩
abbrev S1024x2560 : Shape := ⟨2, ![1024, 2560]⟩
abbrev S32768x512 : Shape := ⟨2, ![32768, 512]⟩
abbrev S512x1024 : Shape := ⟨2, ![512, 1024]⟩
abbrev S1x1x512 : Shape := ⟨3, ![1, 1, 512]⟩
abbrev S512x512 : Shape := ⟨2, ![512, 512]⟩
abbrev S512x2560 : Shape := ⟨2, ![512, 2560]⟩
abbrev S512x1 : Shape := ⟨2, ![512, 1]⟩
abbrev S8x512 : Shape := ⟨2, ![8, 512]⟩
abbrev S32x512 : Shape := ⟨2, ![32, 512]⟩
abbrev S512x384 : Shape := ⟨2, ![512, 384]⟩
abbrev S512x128 : Shape := ⟨2, ![512, 128]⟩
abbrev S1024x256 : Shape := ⟨2, ![1024, 256]⟩
abbrev S512x256 : Shape := ⟨2, ![512, 256]⟩

abbrev nBuf : Space → Nat
  | .hbm => 165
  | .vmem => 22
  | .smem => 0
  | _ => 0

abbrev hbmTy0_0 (i : Nat) : BufTy := match i % 128 with
  | 0 => ⟨S16x2048x1024, .f32⟩
  | 1 => ⟨S16x2048, .i32⟩
  | 2 => ⟨S1x1024, .f32⟩
  | 3 => ⟨S1x1024x2560, .f32⟩
  | 4 => ⟨S1x64, .f32⟩
  | 5 => ⟨S1x64, .f32⟩
  | 6 => ⟨S1x512, .f32⟩
  | 7 => ⟨S1x512, .f32⟩
  | 8 => ⟨S64x1x512, .i32⟩
  | 9 => ⟨S64x1x512, .f32⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S8, .f32⟩
  | 18 => ⟨S_, .f32⟩
  | 19 => ⟨S8, .f32⟩
  | 20 => ⟨S8, .f32⟩
  | 21 => ⟨S_, .f32⟩
  | 22 => ⟨S8, .f32⟩
  | 23 => ⟨S8, .f32⟩
  | 24 => ⟨S128, .i32⟩
  | 25 => ⟨S1x128, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S1x128, .i32⟩
  | 33 => ⟨S1x128, .i32⟩
  | 34 => ⟨S_, .i32⟩
  | 35 => ⟨S1x128, .i32⟩
  | 36 => ⟨S1x128, .i1⟩
  | 37 => ⟨S_, .i32⟩
  | 38 => ⟨S1x128, .i32⟩
  | 39 => ⟨S1x128, .i1⟩
  | 40 => ⟨S_, .i32⟩
  | 41 => ⟨S_, .i1⟩
  | 42 => ⟨S1x128, .i1⟩
  | 43 => ⟨S1x128, .i1⟩
  | 44 => ⟨S1x128, .i1⟩
  | 45 => ⟨S1x128, .i32⟩
  | 46 => ⟨S1x128, .i32⟩
  | 47 => ⟨S1x128, .i32⟩
  | 48 => ⟨S32, .i32⟩
  | 49 => ⟨S32x1, .i32⟩
  | 50 => ⟨S_, .i32⟩
  | 51 => ⟨S1x128, .i32⟩
  | 52 => ⟨S1x128, .i1⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S1x128, .i32⟩
  | 60 => ⟨S1x128, .i32⟩
  | 61 => ⟨S_, .i32⟩
  | 62 => ⟨S1x128, .i32⟩
  | 63 => ⟨S1x128, .i1⟩
  | 64 => ⟨S_, .i32⟩
  | 65 => ⟨S1x128, .i32⟩
  | 66 => ⟨S1x128, .i1⟩
  | 67 => ⟨S_, .i32⟩
  | 68 => ⟨S_, .i1⟩
  | 69 => ⟨S1x128, .i1⟩
  | 70 => ⟨S1x128, .i1⟩
  | 71 => ⟨S1x128, .i1⟩
  | 72 => ⟨S1x128, .i32⟩
  | 73 => ⟨S1x128, .i32⟩
  | 74 => ⟨S1x128, .i32⟩
  | 75 => ⟨S32x128, .i32⟩
  | 76 => ⟨S32x128, .i32⟩
  | 77 => ⟨S32x128, .i1⟩
  | 78 => ⟨S_, .i32⟩
  | 79 => ⟨S32x1, .i32⟩
  | 80 => ⟨S32x1, .i1⟩
  | 81 => ⟨S32x128, .i1⟩
  | 82 => ⟨S32x128, .i1⟩
  | 83 => ⟨S32x128, .i1⟩
  | 84 => ⟨S_, .i32⟩
  | 85 => ⟨S1x128, .i32⟩
  | 86 => ⟨S1x128, .i1⟩
  | 87 => ⟨S_, .i32⟩
  | 88 => ⟨S1x128, .i32⟩
  | 89 => ⟨S1x128, .i32⟩
  | 90 => ⟨S32x128, .i32⟩
  | 91 => ⟨S32x128, .i32⟩
  | 92 => ⟨S32x128, .i1⟩
  | 93 => ⟨S32x128, .i1⟩
  | 94 => ⟨S32x128, .i1⟩
  | 95 => ⟨S_, .i32⟩
  | 96 => ⟨S1x128, .i32⟩
  | 97 => ⟨S1x128, .i1⟩
  | 98 => ⟨S_, .i32⟩
  | 99 => ⟨S1x128, .i32⟩
  | 100 => ⟨S1x128, .i1⟩
  | 101 => ⟨S1x128, .i1⟩
  | 102 => ⟨S32x128, .i32⟩
  | 103 => ⟨S32x128, .i32⟩
  | 104 => ⟨S32x128, .i1⟩
  | 105 => ⟨S32x128, .i1⟩
  | 106 => ⟨S32x128, .i1⟩
  | 107 => ⟨S32x128, .f32⟩
  | 108 => ⟨S32x128, .f32⟩
  | 109 => ⟨S32x128, .f32⟩
  | 110 => ⟨S32x128, .f32⟩
  | 111 => ⟨S32x384, .f32⟩
  | 112 => ⟨S8x1, .f32⟩
  | 113 => ⟨S32x384, .bf16⟩
  | 114 => ⟨S256, .i32⟩
  | 115 => ⟨S_, .i32⟩
  | 116 => ⟨S_, .i32⟩
  | 117 => ⟨S256, .i32⟩
  | 118 => ⟨S256, .i32⟩
  | 119 => ⟨S256, .i32⟩
  | 120 => ⟨S_, .i32⟩
  | 121 => ⟨S256, .i32⟩
  | 122 => ⟨S256, .i1⟩
  | 123 => ⟨S256, .i32⟩
  | 124 => ⟨S256, .i32⟩
  | 125 => ⟨S_, .i32⟩
  | 126 => ⟨S256, .i32⟩
  | 127 => ⟨S256, .i1⟩
  | _ => ⟨S16x2048x1024, .f32⟩

abbrev hbmTy0_1 (i : Nat) : BufTy := match i % 128 with
  | 0 => ⟨S256, .i1⟩
  | 1 => ⟨S_, .i32⟩
  | 2 => ⟨S256, .i32⟩
  | 3 => ⟨S256, .i32⟩
  | 4 => ⟨S256, .i32⟩
  | 5 => ⟨S256x1, .i32⟩
  | 6 => ⟨S1x256, .i32⟩
  | 7 => ⟨S256x256, .i32⟩
  | 8 => ⟨S256x256, .i32⟩
  | 9 => ⟨S256x256, .i1⟩
  | 10 => ⟨S256x256, .bf16⟩
  | 11 => ⟨S32768x1024, .f32⟩
  | 12 => ⟨S64, .f32⟩
  | 13 => ⟨S_, .f32⟩
  | 14 => ⟨S64, .f32⟩
  | 15 => ⟨S64, .f32⟩
  | 16 => ⟨S1x64, .f32⟩
  | 17 => ⟨S8x64, .f32⟩
  | 18 => ⟨S512, .f32⟩
  | 19 => ⟨S64, .f32⟩
  | 20 => ⟨S1x64, .f32⟩
  | 21 => ⟨S8x64, .f32⟩
  | 22 => ⟨S512, .f32⟩
  | 23 => ⟨S1024, .f32⟩
  | 24 => ⟨S1x1024, .f32⟩
  | 25 => ⟨S1024, .f32⟩
  | 26 => ⟨S1x1024, .f32⟩
  | 27 => ⟨S1024x2560, .f32⟩
  | 28 => ⟨S1024x2560, .bf16⟩
  | 29 => ⟨S512, .f32⟩
  | 30 => ⟨S1x512, .f32⟩
  | 31 => ⟨S512, .f32⟩
  | 32 => ⟨S1x512, .f32⟩
  | 33 => ⟨S32768x1024, .bf16⟩
  | 34 => ⟨S32768x512, .bf16⟩
  | 35 => ⟨S32768x512, .bf16⟩
  | 36 => ⟨S32768x512, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S1x1024, .f32⟩
  | .local _ .vmem, ⟨5, _⟩ => ⟨S1x1x512, .f32⟩
  | .local _ .vmem, ⟨6, _⟩ => ⟨S1x1x512, .f32⟩
  | .local _ .vmem, ⟨7, _⟩ => ⟨S8x1, .f32⟩
  | .local _ .vmem, ⟨8, _⟩ => ⟨S32x384, .bf16⟩
  | .local _ .vmem, ⟨9, _⟩ => ⟨S256x256, .bf16⟩
  | .local _ .vmem, ⟨10, _⟩ => ⟨S1x512, .f32⟩
  | .local _ .vmem, ⟨11, _⟩ => ⟨S1x512, .f32⟩
  | .local _ .vmem, ⟨12, _⟩ => ⟨S512x1024, .bf16⟩
  | .local _ .vmem, ⟨13, _⟩ => ⟨S512x1024, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x2560, .f32⟩
  | .local _ .vmem, ⟨21, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_c_1 : Ref sig .tc := ⟨.hbm, 34, rfl⟩
abbrev main_call0_v5 : Ref sig .tc := ⟨.hbm, 35, rfl⟩
abbrev main_call0_v6 : Ref sig .tc := ⟨.hbm, 36, rfl⟩
abbrev main_call0_c_2 : Ref sig .tc := ⟨.hbm, 37, rfl⟩
abbrev main_call0_v7 : Ref sig .tc := ⟨.hbm, 38, rfl⟩
abbrev main_call0_v8 : Ref sig .tc := ⟨.hbm, 39, rfl⟩
abbrev main_call0_c_3 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_c_3 : Ref sig .tc := ⟨.hbm, 50, rfl⟩
abbrev main_v17 : Ref sig .tc := ⟨.hbm, 51, rfl⟩
abbrev main_v18 : Ref sig .tc := ⟨.hbm, 52, rfl⟩
abbrev main_c_4 : Ref sig .tc := ⟨.hbm, 53, rfl⟩
abbrev main_call1_v0 : Ref sig .tc := ⟨.hbm, 54, rfl⟩
abbrev main_call1_c : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_c_1 : Ref sig .tc := ⟨.hbm, 61, rfl⟩
abbrev main_call1_v5 : Ref sig .tc := ⟨.hbm, 62, rfl⟩
abbrev main_call1_v6 : Ref sig .tc := ⟨.hbm, 63, rfl⟩
abbrev main_call1_c_2 : Ref sig .tc := ⟨.hbm, 64, rfl⟩
abbrev main_call1_v7 : Ref sig .tc := ⟨.hbm, 65, rfl⟩
abbrev main_call1_v8 : Ref sig .tc := ⟨.hbm, 66, rfl⟩
abbrev main_call1_c_3 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_c_5 : Ref sig .tc := ⟨.hbm, 78, rfl⟩
abbrev main_v23 : Ref sig .tc := ⟨.hbm, 79, rfl⟩
abbrev main_v24 : Ref sig .tc := ⟨.hbm, 80, rfl⟩
abbrev main_call2_v0 : Ref sig .tc := ⟨.hbm, 81, rfl⟩
abbrev main_call2_v1 : Ref sig .tc := ⟨.hbm, 82, rfl⟩
abbrev main_v25 : Ref sig .tc := ⟨.hbm, 83, rfl⟩
abbrev main_c_6 : Ref sig .tc := ⟨.hbm, 84, rfl⟩
abbrev main_v26 : Ref sig .tc := ⟨.hbm, 85, rfl⟩
abbrev main_v27 : Ref sig .tc := ⟨.hbm, 86, rfl⟩
abbrev main_c_7 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_c_8 : Ref sig .tc := ⟨.hbm, 95, rfl⟩
abbrev main_v35 : Ref sig .tc := ⟨.hbm, 96, rfl⟩
abbrev main_v36 : Ref sig .tc := ⟨.hbm, 97, rfl⟩
abbrev main_c_9 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_c_10 : Ref sig .tc := ⟨.hbm, 115, rfl⟩
abbrev main_call3_v0 : Ref sig .tc := ⟨.hbm, 116, rfl⟩
abbrev main_call3_v1 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_v6 : Ref sig .tc := ⟨.hbm, 122, rfl⟩
abbrev main_call3_v7 : Ref sig .tc := ⟨.hbm, 123, rfl⟩
abbrev main_call3_v8 : Ref sig .tc := ⟨.hbm, 124, rfl⟩
abbrev main_call3_c : Ref sig .tc := ⟨.hbm, 125, rfl⟩
abbrev main_call3_v9 : Ref sig .tc := ⟨.hbm, 126, rfl⟩
abbrev main_call3_v10 : Ref sig .tc := ⟨.hbm, 127, rfl⟩
abbrev main_call3_v11 : Ref sig .tc := ⟨.hbm, 128, rfl⟩
abbrev main_call3_c_0 : Ref sig .tc := ⟨.hbm, 129, rfl⟩
abbrev main_call3_v12 : Ref sig .tc := ⟨.hbm, 130, rfl⟩
abbrev main_call3_v13 : Ref sig .tc := ⟨.hbm, 131, rfl⟩
abbrev main_v53 : Ref sig .tc := ⟨.hbm, 132, rfl⟩
abbrev main_v54 : Ref sig .tc := ⟨.hbm, 133, rfl⟩
abbrev main_v55 : Ref sig .tc := ⟨.hbm, 134, rfl⟩
abbrev main_v56 : Ref sig .tc := ⟨.hbm, 135, rfl⟩
abbrev main_v57 : Ref sig .tc := ⟨.hbm, 136, rfl⟩
abbrev main_v58 : Ref sig .tc := ⟨.hbm, 137, rfl⟩
abbrev main_v59 : Ref sig .tc := ⟨.hbm, 138, rfl⟩
abbrev main_v60 : Ref sig .tc := ⟨.hbm, 139, rfl⟩
abbrev main_v61 : Ref sig .tc := ⟨.hbm, 140, rfl⟩
abbrev main_cst_11 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_v81_0 : Ref sig .tc := ⟨.hbm, 161, rfl⟩
abbrev main_v81_1 : Ref sig .tc := ⟨.hbm, 162, rfl⟩
abbrev main_v81_2 : Ref sig .tc := ⟨.hbm, 163, rfl⟩
abbrev main_v81_3 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel2Ideal.lean ====
variable {F : FTy → Type} [FloatOps F] [Named F]
def κ : String → Option EReal := fun
  | "rsqrt2" => some (((Real.sqrt 2)⁻¹ : ℝ) : EReal)
  | _ => none
-- ==== Reference2Ideal.lean ====
abbrev S16x2048x1024 : Shape := ⟨3, ![16, 2048, 1024]⟩
abbrev S16x2048 : Shape := ⟨2, ![16, 2048]⟩
abbrev S1x1024 : Shape := ⟨2, ![1, 1024]⟩
abbrev S1x1024x2560 : Shape := ⟨3, ![1, 1024, 2560]⟩
abbrev S1x64 : Shape := ⟨2, ![1, 64]⟩
abbrev S1x512 : Shape := ⟨2, ![1, 512]⟩
abbrev S8 : Shape := ⟨1, ![8]⟩
abbrev S_ : Shape := ⟨0, ![]⟩
abbrev S16x2048x1 : Shape := ⟨3, ![16, 2048, 1]⟩
abbrev S1x1x8 : Shape := ⟨3, ![1, 1, 8]⟩
abbrev S16x2048x8 : Shape := ⟨3, ![16, 2048, 8]⟩
abbrev S16x2048x1x1x8 : Shape := ⟨5, ![16, 2048, 1, 1, 8]⟩
abbrev S1024 : Shape := ⟨1, ![1024]⟩
abbrev S1x1x1024 : Shape := ⟨3, ![1, 1, 1024]⟩
abbrev S1024x2560 : Shape := ⟨2, ![1024, 2560]⟩
abbrev S16x2048x2560 : Shape := ⟨3, ![16, 2048, 2560]⟩
abbrev S16x2048x512 : Shape := ⟨3, ![16, 2048, 512]⟩
abbrev S16x2048x4x2x64 : Shape := ⟨5, ![16, 2048, 4, 2, 64]⟩
abbrev S64 : Shape := ⟨1, ![64]⟩
abbrev S16x2048x4x2 : Shape := ⟨4, ![16, 2048, 4, 2]⟩
abbrev S16x2048x4x2x1 : Shape := ⟨5, ![16, 2048, 4, 2, 1]⟩
abbrev S1x1x1x1x64 : Shape := ⟨5, ![1, 1, 1, 1, 64]⟩
abbrev S16x2048x4x2x8 : Shape := ⟨5, ![16, 2048, 4, 2, 8]⟩
abbrev S16x2048x4x2x48 : Shape := ⟨5, ![16, 2048, 4, 2, 48]⟩
abbrev S32768x512 : Shape := ⟨2, ![32768, 512]⟩
abbrev S32768x1024 : Shape := ⟨2, ![32768, 1024]⟩
abbrev S512 : Shape := ⟨1, ![512]⟩
abbrev S1x1x512 : Shape := ⟨3, ![1, 1, 512]⟩

abbrev nBuf : Space → Nat
  | .hbm => 188
  | .vmem => 0
  | .smem => 0
  | _ => 0

abbrev hbmTy0_0 (i : Nat) : BufTy := match i % 128 with
  | 0 => ⟨S16x2048x1024, .f32⟩
  | 1 => ⟨S16x2048, .i32⟩
  | 2 => ⟨S1x1024, .f32⟩
  | 3 => ⟨S1x1024x2560, .f32⟩
  | 4 => ⟨S1x64, .f32⟩
  | 5 => ⟨S1x64, .f32⟩
  | 6 => ⟨S1x512, .f32⟩
  | 7 => ⟨S1x512, .f32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S8, .f32⟩
  | 16 => ⟨S_, .f32⟩
  | 17 => ⟨S8, .f32⟩
  | 18 => ⟨S8, .f32⟩
  | 19 => ⟨S_, .f32⟩
  | 20 => ⟨S8, .f32⟩
  | 21 => ⟨S8, .f32⟩
  | 22 => ⟨S16x2048, .f32⟩
  | 23 => ⟨S16x2048x1, .f32⟩
  | 24 => ⟨S1x1x8, .f32⟩
  | 25 => ⟨S16x2048x8, .f32⟩
  | 26 => ⟨S16x2048x8, .f32⟩
  | 27 => ⟨S16x2048x8, .f32⟩
  | 28 => ⟨S16x2048x8, .f32⟩
  | 29 => ⟨S16x2048x1x1x8, .f32⟩
  | 30 => ⟨S16x2048x8, .f32⟩
  | 31 => ⟨S16x2048x1x1x8, .f32⟩
  | 32 => ⟨S1024, .f32⟩
  | 33 => ⟨S16x2048x1024, .f32⟩
  | 34 => ⟨S_, .f32⟩
  | 35 => ⟨S16x2048, .f32⟩
  | 36 => ⟨S16x2048x1, .f32⟩
  | 37 => ⟨S_, .f32⟩
  | 38 => ⟨S16x2048x1, .f32⟩
  | 39 => ⟨S16x2048x1, .f32⟩
  | 40 => ⟨S_, .f32⟩
  | 41 => ⟨S16x2048x1, .f32⟩
  | 42 => ⟨S16x2048x1, .f32⟩
  | 43 => ⟨S16x2048x1, .f32⟩
  | 44 => ⟨S16x2048x1024, .f32⟩
  | 45 => ⟨S16x2048x1024, .f32⟩
  | 46 => ⟨S1x1x1024, .f32⟩
  | 47 => ⟨S16x2048x1024, .f32⟩
  | 48 => ⟨S16x2048x1024, .f32⟩
  | 49 => ⟨S1024x2560, .f32⟩
  | 50 => ⟨S16x2048x2560, .f32⟩
  | 51 => ⟨S16x2048x512, .f32⟩
  | 52 => ⟨S16x2048x4x2x64, .f32⟩
  | 53 => ⟨S16x2048x512, .f32⟩
  | 54 => ⟨S16x2048x4x2x64, .f32⟩
  | 55 => ⟨S16x2048x512, .f32⟩
  | 56 => ⟨S16x2048x512, .f32⟩
  | 57 => ⟨S_, .f32⟩
  | 58 => ⟨S16x2048x512, .f32⟩
  | 59 => ⟨S16x2048x512, .f32⟩
  | 60 => ⟨S_, .f32⟩
  | 61 => ⟨S_, .f32⟩
  | 62 => ⟨S_, .f32⟩
  | 63 => ⟨S16x2048x512, .f32⟩
  | 64 => ⟨S16x2048x512, .f32⟩
  | 65 => ⟨S16x2048x512, .f32⟩
  | 66 => ⟨S_, .f32⟩
  | 67 => ⟨S16x2048x512, .f32⟩
  | 68 => ⟨S16x2048x512, .f32⟩
  | 69 => ⟨S16x2048x512, .f32⟩
  | 70 => ⟨S16x2048x512, .f32⟩
  | 71 => ⟨S_, .f32⟩
  | 72 => ⟨S16x2048x512, .f32⟩
  | 73 => ⟨S16x2048x512, .f32⟩
  | 74 => ⟨S_, .f32⟩
  | 75 => ⟨S_, .f32⟩
  | 76 => ⟨S_, .f32⟩
  | 77 => ⟨S16x2048x512, .f32⟩
  | 78 => ⟨S16x2048x512, .f32⟩
  | 79 => ⟨S16x2048x512, .f32⟩
  | 80 => ⟨S_, .f32⟩
  | 81 => ⟨S16x2048x512, .f32⟩
  | 82 => ⟨S16x2048x512, .f32⟩
  | 83 => ⟨S16x2048x512, .f32⟩
  | 84 => ⟨S64, .f32⟩
  | 85 => ⟨S16x2048x4x2x64, .f32⟩
  | 86 => ⟨S_, .f32⟩
  | 87 => ⟨S16x2048x4x2, .f32⟩
  | 88 => ⟨S16x2048x4x2x1, .f32⟩
  | 89 => ⟨S_, .f32⟩
  | 90 => ⟨S16x2048x4x2x1, .f32⟩
  | 91 => ⟨S16x2048x4x2x1, .f32⟩
  | 92 => ⟨S_, .f32⟩
  | 93 => ⟨S16x2048x4x2x1, .f32⟩
  | 94 => ⟨S16x2048x4x2x1, .f32⟩
  | 95 => ⟨S16x2048x4x2x1, .f32⟩
  | 96 => ⟨S16x2048x4x2x64, .f32⟩
  | 97 => ⟨S16x2048x4x2x64, .f32⟩
  | 98 => ⟨S1x1x1x1x64, .f32⟩
  | 99 => ⟨S16x2048x4x2x64, .f32⟩
  | 100 => ⟨S16x2048x4x2x64, .f32⟩
  | 101 => ⟨S16x2048x4x2x8, .f32⟩
  | 102 => ⟨S16x2048x4x2x8, .f32⟩
  | 103 => ⟨S16x2048x4x2x8, .f32⟩
  | 104 => ⟨S16x2048x4x2x8, .f32⟩
  | 105 => ⟨S16x2048x4x2x8, .f32⟩
  | 106 => ⟨S16x2048x4x2x8, .f32⟩
  | 107 => ⟨S16x2048x4x2x8, .f32⟩
  | 108 => ⟨S16x2048x4x2x8, .f32⟩
  | 109 => ⟨S16x2048x4x2x8, .f32⟩
  | 110 => ⟨S16x2048x4x2x8, .f32⟩
  | 111 => ⟨S16x2048x4x2x8, .f32⟩
  | 112 => ⟨S16x2048x4x2x8, .f32⟩
  | 113 => ⟨S16x2048x4x2x48, .f32⟩
  | 114 => ⟨S16x2048x4x2x64, .f32⟩
  | 115 => ⟨S_, .f32⟩
  | 116 => ⟨S16x2048x4x2x64, .f32⟩
  | 117 => ⟨S16x2048x4x2x64, .f32⟩
  | 118 => ⟨S64, .f32⟩
  | 119 => ⟨S16x2048x4x2x64, .f32⟩
  | 120 => ⟨S_, .f32⟩
  | 121 => ⟨S16x2048x4x2, .f32⟩
  | 122 => ⟨S16x2048x4x2x1, .f32⟩
  | 123 => ⟨S_, .f32⟩
  | 124 => ⟨S16x2048x4x2x1, .f32⟩
  | 125 => ⟨S16x2048x4x2x1, .f32⟩
  | 126 => ⟨S_, .f32⟩
  | 127 => ⟨S16x2048x4x2x1, .f32⟩
  | _ => ⟨S16x2048x1024, .f32⟩

abbrev hbmTy0_1 (i : Nat) : BufTy := match i % 128 with
  | 0 => ⟨S16x2048x4x2x1, .f32⟩
  | 1 => ⟨S16x2048x4x2x1, .f32⟩
  | 2 => ⟨S16x2048x4x2x64, .f32⟩
  | 3 => ⟨S16x2048x4x2x64, .f32⟩
  | 4 => ⟨S1x1x1x1x64, .f32⟩
  | 5 => ⟨S16x2048x4x2x64, .f32⟩
  | 6 => ⟨S16x2048x4x2x64, .f32⟩
  | 7 => ⟨S16x2048x4x2x8, .f32⟩
  | 8 => ⟨S16x2048x4x2x8, .f32⟩
  | 9 => ⟨S16x2048x4x2x8, .f32⟩
  | 10 => ⟨S16x2048x4x2x8, .f32⟩
  | 11 => ⟨S16x2048x4x2x8, .f32⟩
  | 12 => ⟨S16x2048x4x2x8, .f32⟩
  | 13 => ⟨S16x2048x4x2x8, .f32⟩
  | 14 => ⟨S16x2048x4x2x8, .f32⟩
  | 15 => ⟨S16x2048x4x2x8, .f32⟩
  | 16 => ⟨S16x2048x4x2x8, .f32⟩
  | 17 => ⟨S16x2048x4x2x8, .f32⟩
  | 18 => ⟨S16x2048x4x2x8, .f32⟩
  | 19 => ⟨S16x2048x4x2x48, .f32⟩
  | 20 => ⟨S16x2048x4x2x64, .f32⟩
  | 21 => ⟨S32768x512, .f32⟩
  | 22 => ⟨S32768x512, .f32⟩
  | 23 => ⟨S32768x1024, .f32⟩
  | 24 => ⟨S512, .f32⟩
  | 25 => ⟨S512, .f32⟩
  | 26 => ⟨S_, .f32⟩
  | 27 => ⟨S16x2048, .f32⟩
  | 28 => ⟨S16x2048x1, .f32⟩
  | 29 => ⟨S_, .f32⟩
  | 30 => ⟨S16x2048x1, .f32⟩
  | 31 => ⟨S16x2048x1, .f32⟩
  | 32 => ⟨S16x2048x512, .f32⟩
  | 33 => ⟨S16x2048x512, .f32⟩
  | 34 => ⟨S16x2048x512, .f32⟩
  | 35 => ⟨S_, .f32⟩
  | 36 => ⟨S16x2048, .f32⟩
  | 37 => ⟨S16x2048x1, .f32⟩
  | 38 => ⟨S_, .f32⟩
  | 39 => ⟨S16x2048x1, .f32⟩
  | 40 => ⟨S16x2048x1, .f32⟩
  | 41 => ⟨S_, .f32⟩
  | 42 => ⟨S16x2048x1, .f32⟩
  | 43 => ⟨S16x2048x1, .f32⟩
  | 44 => ⟨S16x2048x1, .f32⟩
  | 45 => ⟨S16x2048x512, .f32⟩
  | 46 => ⟨S16x2048x512, .f32⟩
  | 47 => ⟨S1x1x512, .f32⟩
  | 48 => ⟨S16x2048x512, .f32⟩
  | 49 => ⟨S16x2048x512, .f32⟩
  | 50 => ⟨S1x1x512, .f32⟩
  | 51 => ⟨S16x2048x512, .f32⟩
  | 52 => ⟨S16x2048x512, .f32⟩
  | 53 => ⟨S32768x1024, .bf16⟩
  | 54 => ⟨S32768x512, .f32⟩
  | 55 => ⟨S32768x512, .bf16⟩
  | 56 => ⟨S32768x512, .f32⟩
  | 57 => ⟨S32768x512, .bf16⟩
  | 58 => ⟨S32768x512, .f32⟩
  | 59 => ⟨S32768x512, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_11 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_12 : Ref sig .tc := ⟨.hbm, 86, rfl⟩
abbrev main_v65 : Ref sig .tc := ⟨.hbm, 87, rfl⟩
abbrev main_v66 : Ref sig .tc := ⟨.hbm, 88, rfl⟩
abbrev main_cst_13 : Ref sig .tc := ⟨.hbm, 89, rfl⟩
abbrev main_v67 : Ref sig .tc := ⟨.hbm, 90, rfl⟩
abbrev main_v68 : Ref sig .tc := ⟨.hbm, 91, rfl⟩
abbrev main_cst_14 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_15 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_16 : Ref sig .tc := ⟨.hbm, 120, rfl⟩
abbrev main_v95 : Ref sig .tc := ⟨.hbm, 121, rfl⟩
abbrev main_v96 : Ref sig .tc := ⟨.hbm, 122, rfl⟩
abbrev main_cst_17 : Ref sig .tc := ⟨.hbm, 123, rfl⟩
abbrev main_v97 : Ref sig .tc := ⟨.hbm, 124, rfl⟩
abbrev main_v98 : Ref sig .tc := ⟨.hbm, 125, rfl⟩
abbrev main_cst_18 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_cst_19 : Ref sig .tc := ⟨.hbm, 154, rfl⟩
abbrev main_v126 : Ref sig .tc := ⟨.hbm, 155, rfl⟩
abbrev main_v127 : Ref sig .tc := ⟨.hbm, 156, rfl⟩
abbrev main_cst_20 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_cst_21 : Ref sig .tc := ⟨.hbm, 163, rfl⟩
abbrev main_v133 : Ref sig .tc := ⟨.hbm, 164, rfl⟩
abbrev main_v134 : Ref sig .tc := ⟨.hbm, 165, rfl⟩
abbrev main_cst_22 : Ref sig .tc := ⟨.hbm, 166, rfl⟩
abbrev main_v135 : Ref sig .tc := ⟨.hbm, 167, rfl⟩
abbrev main_v136 : Ref sig .tc := ⟨.hbm, 168, rfl⟩
abbrev main_cst_23 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩

abbrev nD : Nat := 1
abbrev τ : Topo := Topo.v7x

variable {F : FTy → Type} [FloatOps F]
-- ==== Kernel3.lean ====
abbrev S16x2048x512 : Shape := ⟨3, ![16, 2048, 512]⟩
abbrev S16x2048x1024 : Shape := ⟨3, ![16, 2048, 1024]⟩
abbrev S1x4x128x128 : Shape := ⟨4, ![1, 4, 128, 128]⟩
abbrev S1x4x128 : Shape := ⟨3, ![1, 4, 128]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S32768x1024 : Shape := ⟨2, ![32768, 1024]⟩
abbrev S1024x4 : Shape := ⟨2, ![1024, 4]⟩
abbrev S1024x32 : Shape := ⟨2, ![1024, 32]⟩
abbrev S1024x36 : Shape := ⟨2, ![1024, 36]⟩
abbrev S_ : Shape := ⟨0, ![]⟩
abbrev S1024x128 : Shape := ⟨2, ![1024, 128]⟩
abbrev S4 : Shape := ⟨1, ![4]⟩
abbrev S32 : Shape := ⟨1, ![32]⟩
abbrev S36 : Shape := ⟨1, ![36]⟩
abbrev S128 : Shape := ⟨1, ![128]⟩
abbrev S1x128 : Shape := ⟨2, ![1, 128]⟩
abbrev S32768x512 : Shape := ⟨2, ![32768, 512]⟩
abbrev S4x128x128 : Shape := ⟨3, ![4, 128, 128]⟩
abbrev S4x128 : Shape := ⟨2, ![4, 128]⟩
abbrev S128x4 : Shape := ⟨2, ![128, 4]⟩
abbrev S1024x1024 : Shape := ⟨2, ![1024, 1024]⟩
abbrev S1024 : Shape := ⟨1, ![1024]⟩
abbrev S1024x256 : Shape := ⟨2, ![1024, 256]⟩
abbrev S32768x128 : Shape := ⟨2, ![32768, 128]⟩
abbrev S8x32768 : Shape := ⟨2, ![8, 32768]⟩
abbrev S512x1024 : Shape := ⟨2, ![512, 1024]⟩
abbrev S512x128 : Shape := ⟨2, ![512, 128]⟩
abbrev S8x512 : Shape := ⟨2, ![8, 512]⟩
abbrev S128x128 : Shape := ⟨2, ![128, 128]⟩
abbrev S512x256 : Shape := ⟨2, ![512, 256]⟩
abbrev S128x512 : Shape := ⟨2, ![128, 512]⟩
abbrev S1x128x128 : Shape := ⟨3, ![1, 128, 128]⟩
abbrev S128x1 : Shape := ⟨2, ![128, 1]⟩

abbrev nBuf : Space → Nat
  | .hbm => 58
  | .vmem => 29
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x512, .f32⟩
  | .hbm, ⟨3, _⟩ => ⟨S16x2048x1024, .f32⟩
  | .hbm, ⟨4, _⟩ => ⟨S1x4x128x128, .f32⟩
  | .hbm, ⟨5, _⟩ => ⟨S1x4x128, .f32⟩
  | .hbm, ⟨6, _⟩ => ⟨S1x4x128, .f32⟩
  | .hbm, ⟨7, _⟩ => ⟨S1x1024x1024, .f32⟩
  | .hbm, ⟨8, _⟩ => ⟨S1x1024, .f32⟩
  | .hbm, ⟨9, _⟩ => ⟨S1x1024x4, .f32⟩
  | .hbm, ⟨10, _⟩ => ⟨S1x4, .f32⟩
  | .hbm, ⟨11, _⟩ => ⟨S1x1024x32, .f32⟩
  | .hbm, ⟨12, _⟩ => ⟨S1x32, .f32⟩
  | .hbm, ⟨13, _⟩ => ⟨S512, .i32⟩
  | .hbm, ⟨14, _⟩ => ⟨S1x512, .i32⟩
  | .hbm, ⟨15, _⟩ => ⟨S512x1, .i32⟩
  | .hbm, ⟨16, _⟩ => ⟨S512x512, .i32⟩
  | .hbm, ⟨17, _⟩ => ⟨S512x512, .i32⟩
  | .hbm, ⟨18, _⟩ => ⟨S512x512, .i1⟩
  | .hbm, ⟨19, _⟩ => ⟨S512x512, .bf16⟩
  | .hbm, ⟨20, _⟩ => ⟨S32768x1024, .f32⟩
  | .hbm, ⟨21, _⟩ => ⟨S1024x4, .f32⟩
  | .hbm, ⟨22, _⟩ => ⟨S1024x32, .f32⟩
  | .hbm, ⟨23, _⟩ => ⟨S1024x36, .f32⟩
  | .hbm, ⟨24, _⟩ => ⟨S_, .i32⟩
  | .hbm, ⟨25, _⟩ => ⟨S_, .f32⟩
  | .hbm, ⟨26, _⟩ => ⟨S1024x128, .f32⟩
  | .hbm, ⟨27, _⟩ => ⟨S1024x128, .bf16⟩
  | .hbm, ⟨28, _⟩ => ⟨S1024x128, .f32⟩
  | .hbm, ⟨29, _⟩ => ⟨S1024x128, .f32⟩
  | .hbm, ⟨30, _⟩ => ⟨S1024x128, .bf16⟩
  | .hbm, ⟨31, _⟩ => ⟨S4, .f32⟩
  | .hbm, ⟨32, _⟩ => ⟨S32, .f32⟩
  | .hbm, ⟨33, _⟩ => ⟨S36, .f32⟩
  | .hbm, ⟨34, _⟩ => ⟨S_, .i32⟩
  | .hbm, ⟨35, _⟩ => ⟨S_, .f32⟩
  | .hbm, ⟨36, _⟩ => ⟨S128, .f32⟩
  | .hbm, ⟨37, _⟩ => ⟨S1x128, .f32⟩
  | .hbm, ⟨38, _⟩ => ⟨S32768x512, .f32⟩
  | .hbm, ⟨39, _⟩ => ⟨S32768x512, .bf16⟩
  | .hbm, ⟨40, _⟩ => ⟨S32768x512, .f32⟩
  | .hbm, ⟨41, _⟩ => ⟨S32768x512, .bf16⟩
  | .hbm, ⟨42, _⟩ => ⟨S32768x512, .f32⟩
  | .hbm, ⟨43, _⟩ => ⟨S32768x512, .bf16⟩
  | .hbm, ⟨44, _⟩ => ⟨S4x128x128, .f32⟩
  | .hbm, ⟨45, _⟩ => ⟨S4x128, .f32⟩
  | .hbm, ⟨46, _⟩ => ⟨S128x4, .f32⟩
  | .hbm, ⟨47, _⟩ => ⟨S4x128, .f32⟩
  | .hbm, ⟨48, _⟩ => ⟨S1024x1024, .f32⟩
  | .hbm, ⟨49, _⟩ => ⟨S1024x1024, .bf16⟩
  | .hbm, ⟨50, _⟩ => ⟨S1024, .f32⟩
  | .hbm, ⟨51, _⟩ => ⟨S1x1024, .f32⟩
  | .hbm, ⟨52, _⟩ => ⟨S1024x256, .bf16⟩
  | .hbm, ⟨53, _⟩ => ⟨S32768x1024, .f32⟩
  | .hbm, ⟨54, _⟩ => ⟨S32768x512, .i32⟩
  | .hbm, ⟨55, _⟩ => ⟨S32768x128, .f32⟩
  | .hbm, ⟨56, _⟩ => ⟨S8x32768, .f32⟩
  | .hbm, ⟨57, _⟩ => ⟨S1x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S4x128x128, .f32⟩
  | .local _ .vmem, ⟨9, _⟩ => ⟨S128x4, .f32⟩
  | .local _ .vmem, ⟨10, _⟩ => ⟨S4x128, .f32⟩
  | .local _ .vmem, ⟨11, _⟩ => ⟨S1024x1024, .bf16⟩
  | .local _ .vmem, ⟨12, _⟩ => ⟨S1x1024, .f32⟩
  | .local _ .vmem, ⟨13, _⟩ => ⟨S1024x256, .bf16⟩
  | .local _ .vmem, ⟨14, _⟩ => ⟨S1024x128, .bf16⟩
  | .local _ .vmem, ⟨15, _⟩ => ⟨S1x128, .f32⟩
  | .local _ .vmem, ⟨16, _⟩ => ⟨S512x512, .bf16⟩
  | .local _ .vmem, ⟨17, _⟩ => ⟨S512x1024, .f32⟩
  | .local _ .vmem, ⟨18, _⟩ => ⟨S512x1024, .f32⟩
  | .local _ .vmem, ⟨19, _⟩ => ⟨S512x512, .i32⟩
  | .local _ .vmem, ⟨20, _⟩ => ⟨S512x512, .i32⟩
  | .local _ .vmem, ⟨21, _⟩ => ⟨S512x128, .f32⟩
  | .local _ .vmem, ⟨22, _⟩ => ⟨S512x128, .f32⟩
  | .local _ .vmem, ⟨23, _⟩ => ⟨S8x512, .f32⟩
  | .local _ .vmem, ⟨24, _⟩ => ⟨S8x512, .f32⟩
  | .local _ .vmem, ⟨25, _⟩ => ⟨S1x128, .f32⟩
  | .local _ .vmem, ⟨26, _⟩ => ⟨S1x128, .f32⟩
  | .local _ .vmem, ⟨27, _⟩ => ⟨S512x1024, .f32⟩
  | .local _ .vmem, ⟨28, _⟩ => ⟨S512x1024, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_call0_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_0 : Ref sig .tc := ⟨.hbm, 34, rfl⟩
abbrev main_call1_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36_0 : Ref sig .tc := ⟨.hbm, 53, rfl⟩
abbrev main_v36_1 : Ref sig .tc := ⟨.hbm, 54, rfl⟩
abbrev main_v36_2 : Ref sig .tc := ⟨.hbm, 55, rfl⟩
abbrev main_v36_3 : Ref sig .tc := ⟨.hbm, 56, rfl⟩
abbrev main_v36_4 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25

abbrev nD : Nat := 1
abbrev τ : Topo := Topo.v7x

variable {F : FTy → Type} [BitOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_16 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Kernel3Ideal.lean ====
abbrev S16x2048x512 : Shape := ⟨3, ![16, 2048, 512]⟩
abbrev S16x2048x1024 : Shape := ⟨3, ![16, 2048, 1024]⟩
abbrev S1x4x128x128 : Shape := ⟨4, ![1, 4, 128, 128]⟩
abbrev S1x4x128 : Shape := ⟨3, ![1, 4, 128]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S32768x1024 : Shape := ⟨2, ![32768, 1024]⟩
abbrev S1024x4 : Shape := ⟨2, ![1024, 4]⟩
abbrev S1024x32 : Shape := ⟨2, ![1024, 32]⟩
abbrev S1024x36 : Shape := ⟨2, ![1024, 36]⟩
abbrev S_ : Shape := ⟨0, ![]⟩
abbrev S1024x128 : Shape := ⟨2, ![1024, 128]⟩
abbrev S4 : Shape := ⟨1, ![4]⟩
abbrev S32 : Shape := ⟨1, ![32]⟩
abbrev S36 : Shape := ⟨1, ![36]⟩
abbrev S128 : Shape := ⟨1, ![128]⟩
abbrev S1x128 : Shape := ⟨2, ![1, 128]⟩
abbrev S32768x512 : Shape := ⟨2, ![32768, 512]⟩
abbrev S4x128x128 : Shape := ⟨3, ![4, 128, 128]⟩
abbrev S4x128 : Shape := ⟨2, ![4, 128]⟩
abbrev S128x4 : Shape := ⟨2, ![128, 4]⟩
abbrev S1024x1024 : Shape := ⟨2, ![1024, 1024]⟩
abbrev S1024 : Shape := ⟨1, ![1024]⟩
abbrev S1024x256 : Shape := ⟨2, ![1024, 256]⟩
abbrev S32768x2x512 : Shape := ⟨3, ![32768, 2, 512]⟩
abbrev S32768x128 : Shape := ⟨2, ![32768, 128]⟩
abbrev S8x32768 : Shape := ⟨2, ![8, 32768]⟩
abbrev S32768x1x512 : Shape := ⟨3, ![32768, 1, 512]⟩
abbrev S512x1024 : Shape := ⟨2, ![512, 1024]⟩
abbrev S512x2x512 : Shape := ⟨3, ![512, 2, 512]⟩
abbrev S512x1x512 : Shape := ⟨3, ![512, 1, 512]⟩
abbrev S512x128 : Shape := ⟨2, ![512, 128]⟩
abbrev S8x512 : Shape := ⟨2, ![8, 512]⟩
abbrev S128x128 : Shape := ⟨2, ![128, 128]⟩
abbrev S512x256 : Shape := ⟨2, ![512, 256]⟩
abbrev S128x512 : Shape := ⟨2, ![128, 512]⟩
abbrev S1x128x128 : Shape := ⟨3, ![1, 128, 128]⟩
abbrev S128x1 : Shape := ⟨2, ![128, 1]⟩

abbrev nBuf : Space → Nat
  | .hbm => 58
  | .vmem => 29
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x512, .f32⟩
  | .hbm, ⟨3, _⟩ => ⟨S16x2048x1024, .f32⟩
  | .hbm, ⟨4, _⟩ => ⟨S1x4x128x128, .f32⟩
  | .hbm, ⟨5, _⟩ => ⟨S1x4x128, .f32⟩
  | .hbm, ⟨6, _⟩ => ⟨S1x4x128, .f32⟩
  | .hbm, ⟨7, _⟩ => ⟨S1x1024x1024, .f32⟩
  | .hbm, ⟨8, _⟩ => ⟨S1x1024, .f32⟩
  | .hbm, ⟨9, _⟩ => ⟨S1x1024x4, .f32⟩
  | .hbm, ⟨10, _⟩ => ⟨S1x4, .f32⟩
  | .hbm, ⟨11, _⟩ => ⟨S1x1024x32, .f32⟩
  | .hbm, ⟨12, _⟩ => ⟨S1x32, .f32⟩
  | .hbm, ⟨13, _⟩ => ⟨S512, .i32⟩
  | .hbm, ⟨14, _⟩ => ⟨S1x512, .i32⟩
  | .hbm, ⟨15, _⟩ => ⟨S512x1, .i32⟩
  | .hbm, ⟨16, _⟩ => ⟨S512x512, .i32⟩
  | .hbm, ⟨17, _⟩ => ⟨S512x512, .i32⟩
  | .hbm, ⟨18, _⟩ => ⟨S512x512, .i1⟩
  | .hbm, ⟨19, _⟩ => ⟨S512x512, .bf16⟩
  | .hbm, ⟨20, _⟩ => ⟨S32768x1024, .f32⟩
  | .hbm, ⟨21, _⟩ => ⟨S1024x4, .f32⟩
  | .hbm, ⟨22, _⟩ => ⟨S1024x32, .f32⟩
  | .hbm, ⟨23, _⟩ => ⟨S1024x36, .f32⟩
  | .hbm, ⟨24, _⟩ => ⟨S_, .i32⟩
  | .hbm, ⟨25, _⟩ => ⟨S_, .f32⟩
  | .hbm, ⟨26, _⟩ => ⟨S1024x128, .f32⟩
  | .hbm, ⟨27, _⟩ => ⟨S1024x128, .bf16⟩
  | .hbm, ⟨28, _⟩ => ⟨S1024x128, .f32⟩
  | .hbm, ⟨29, _⟩ => ⟨S1024x128, .f32⟩
  | .hbm, ⟨30, _⟩ => ⟨S1024x128, .bf16⟩
  | .hbm, ⟨31, _⟩ => ⟨S4, .f32⟩
  | .hbm, ⟨32, _⟩ => ⟨S32, .f32⟩
  | .hbm, ⟨33, _⟩ => ⟨S36, .f32⟩
  | .hbm, ⟨34, _⟩ => ⟨S_, .i32⟩
  | .hbm, ⟨35, _⟩ => ⟨S_, .f32⟩
  | .hbm, ⟨36, _⟩ => ⟨S128, .f32⟩
  | .hbm, ⟨37, _⟩ => ⟨S1x128, .f32⟩
  | .hbm, ⟨38, _⟩ => ⟨S32768x512, .f32⟩
  | .hbm, ⟨39, _⟩ => ⟨S32768x512, .bf16⟩
  | .hbm, ⟨40, _⟩ => ⟨S32768x512, .f32⟩
  | .hbm, ⟨41, _⟩ => ⟨S32768x512, .bf16⟩
  | .hbm, ⟨42, _⟩ => ⟨S32768x512, .f32⟩
  | .hbm, ⟨43, _⟩ => ⟨S32768x512, .bf16⟩
  | .hbm, ⟨44, _⟩ => ⟨S4x128x128, .f32⟩
  | .hbm, ⟨45, _⟩ => ⟨S4x128, .f32⟩
  | .hbm, ⟨46, _⟩ => ⟨S128x4, .f32⟩
  | .hbm, ⟨47, _⟩ => ⟨S4x128, .f32⟩
  | .hbm, ⟨48, _⟩ => ⟨S1024x1024, .f32⟩
  | .hbm, ⟨49, _⟩ => ⟨S1024x1024, .bf16⟩
  | .hbm, ⟨50, _⟩ => ⟨S1024, .f32⟩
  | .hbm, ⟨51, _⟩ => ⟨S1x1024, .f32⟩
  | .hbm, ⟨52, _⟩ => ⟨S1024x256, .bf16⟩
  | .hbm, ⟨53, _⟩ => ⟨S32768x1024, .f32⟩
  | .hbm, ⟨54, _⟩ => ⟨S32768x2x512, .bf16⟩
  | .hbm, ⟨55, _⟩ => ⟨S32768x128, .f32⟩
  | .hbm, ⟨56, _⟩ => ⟨S8x32768, .f32⟩
  | .hbm, ⟨57, _⟩ => ⟨S1x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S4x128x128, .f32⟩
  | .local _ .vmem, ⟨9, _⟩ => ⟨S128x4, .f32⟩
  | .local _ .vmem, ⟨10, _⟩ => ⟨S4x128, .f32⟩
  | .local _ .vmem, ⟨11, _⟩ => ⟨S1024x1024, .bf16⟩
  | .local _ .vmem, ⟨12, _⟩ => ⟨S1x1024, .f32⟩
  | .local _ .vmem, ⟨13, _⟩ => ⟨S1024x256, .bf16⟩
  | .local _ .vmem, ⟨14, _⟩ => ⟨S1024x128, .bf16⟩
  | .local _ .vmem, ⟨15, _⟩ => ⟨S1x128, .f32⟩
  | .local _ .vmem, ⟨16, _⟩ => ⟨S512x512, .bf16⟩
  | .local _ .vmem, ⟨17, _⟩ => ⟨S512x1024, .f32⟩
  | .local _ .vmem, ⟨18, _⟩ => ⟨S512x1024, .f32⟩
  | .local _ .vmem, ⟨19, _⟩ => ⟨S512x2x512, .bf16⟩
  | .local _ .vmem, ⟨20, _⟩ => ⟨S512x2x512, .bf16⟩
  | .local _ .vmem, ⟨21, _⟩ => ⟨S512x128, .f32⟩
  | .local _ .vmem, ⟨22, _⟩ => ⟨S512x128, .f32⟩
  | .local _ .vmem, ⟨23, _⟩ => ⟨S8x512, .f32⟩
  | .local _ .vmem, ⟨24, _⟩ => ⟨S8x512, .f32⟩
  | .local _ .vmem, ⟨25, _⟩ => ⟨S1x128, .f32⟩
  | .local _ .vmem, ⟨26, _⟩ => ⟨S1x128, .f32⟩
  | .local _ .vmem, ⟨27, _⟩ => ⟨S512x1024, .f32⟩
  | .local _ .vmem, ⟨28, _⟩ => ⟨S512x1024, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_call0_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_0 : Ref sig .tc := ⟨.hbm, 34, rfl⟩
abbrev main_call1_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36_0 : Ref sig .tc := ⟨.hbm, 53, rfl⟩
abbrev main_v36_1 : Ref sig .tc := ⟨.hbm, 54, rfl⟩
abbrev main_v36_2 : Ref sig .tc := ⟨.hbm, 55, rfl⟩
abbrev main_v36_3 : Ref sig .tc := ⟨.hbm, 56, rfl⟩
abbrev main_v36_4 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_14 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, 0, c0_i32_0.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_16 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference3Ideal.lean ====
abbrev S16x2048x512 : Shape := ⟨3, ![16, 2048, 512]⟩
abbrev S16x2048x1024 : Shape := ⟨3, ![16, 2048, 1024]⟩
abbrev S1x4x128x128 : Shape := ⟨4, ![1, 4, 128, 128]⟩
abbrev S1x4x128 : Shape := ⟨3, ![1, 4, 128]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S16x16x128x4x128 : Shape := ⟨5, ![16, 16, 128, 4, 128]⟩
abbrev S4x128x128 : Shape := ⟨3, ![4, 128, 128]⟩
abbrev S_ : Shape := ⟨0, ![]⟩
abbrev S128x128 : Shape := ⟨2, ![128, 128]⟩
abbrev S1x128x128 : Shape := ⟨3, ![1, 128, 128]⟩
abbrev S4x16x16x128x128 : Shape := ⟨5, ![4, 16, 16, 128, 128]⟩
abbrev S4x128 : Shape := ⟨2, ![4, 128]⟩
abbrev S128x4 : Shape := ⟨2, ![128, 4]⟩
abbrev S1x1x128x4x1 : Shape := ⟨5, ![1, 1, 128, 4, 1]⟩
abbrev S16x2048x4x128 : Shape := ⟨4, ![16, 2048, 4, 128]⟩
abbrev S16x2048x4 : Shape := ⟨3, ![16, 2048, 4]⟩
abbrev S16x2048x4x1 : Shape := ⟨4, ![16, 2048, 4, 1]⟩
abbrev S1x1x4x128 : Shape := ⟨4, ![1, 1, 4, 128]⟩
abbrev S1024x1024 : Shape := ⟨2, ![1024, 1024]⟩
abbrev S32768x1024 : Shape := ⟨2, ![32768, 1024]⟩

abbrev nBuf : Space → Nat
  | .hbm => 62
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x512, .f32⟩
  | .hbm, ⟨3, _⟩ => ⟨S16x2048x1024, .f32⟩
  | .hbm, ⟨4, _⟩ => ⟨S1x4x128x128, .f32⟩
  | .hbm, ⟨5, _⟩ => ⟨S1x4x128, .f32⟩
  | .hbm, ⟨6, _⟩ => ⟨S1x4x128, .f32⟩
  | .hbm, ⟨7, _⟩ => ⟨S1x1024x1024, .f32⟩
  | .hbm, ⟨8, _⟩ => ⟨S1x1024, .f32⟩
  | .hbm, ⟨9, _⟩ => ⟨S1x1024x4, .f32⟩
  | .hbm, ⟨10, _⟩ => ⟨S1x4, .f32⟩
  | .hbm, ⟨11, _⟩ => ⟨S1x1024x32, .f32⟩
  | .hbm, ⟨12, _⟩ => ⟨S1x32, .f32⟩
  | .hbm, ⟨13, _⟩ => ⟨S16x16x128x4x128, .f32⟩
  | .hbm, ⟨14, _⟩ => ⟨S4x128x128, .f32⟩
  | .hbm, ⟨15, _⟩ => ⟨S_, .f32⟩
  | .hbm, ⟨16, _⟩ => ⟨S128x128, .f32⟩
  | .hbm, ⟨17, _⟩ => ⟨S128x128, .i32⟩
  | .hbm, ⟨18, _⟩ => ⟨S_, .i32⟩
  | .hbm, ⟨19, _⟩ => ⟨S128x128, .i32⟩
  | .hbm, ⟨20, _⟩ => ⟨S128x128, .i32⟩
  | .hbm, ⟨21, _⟩ => ⟨S128x128, .i32⟩
  | .hbm, ⟨22, _⟩ => ⟨S128x128, .i1⟩
  | .hbm, ⟨23, _⟩ => ⟨S_, .f32⟩
  | .hbm, ⟨24, _⟩ => ⟨S128x128, .f32⟩
  | .hbm, ⟨25, _⟩ => ⟨S128x128, .f32⟩
  | .hbm, ⟨26, _⟩ => ⟨S1x128x128, .f32⟩
  | .hbm, ⟨27, _⟩ => ⟨S4x128x128, .f32⟩
  | .hbm, ⟨28, _⟩ => ⟨S4x128x128, .f32⟩
  | .hbm, ⟨29, _⟩ => ⟨S4x16x16x128x128, .f32⟩
  | .hbm, ⟨30, _⟩ => ⟨S16x16x128x4x128, .f32⟩
  | .hbm, ⟨31, _⟩ => ⟨S4x128, .f32⟩
  | .hbm, ⟨32, _⟩ => ⟨S128x4, .f32⟩
  | .hbm, ⟨33, _⟩ => ⟨S1x1x128x4x1, .f32⟩
  | .hbm, ⟨34, _⟩ => ⟨S16x16x128x4x128, .f32⟩
  | .hbm, ⟨35, _⟩ => ⟨S16x16x128x4x128, .f32⟩
  | .hbm, ⟨36, _⟩ => ⟨S16x2048x512, .f32⟩
  | .hbm, ⟨37, _⟩ => ⟨S16x2048x512, .f32⟩
  | .hbm, ⟨38, _⟩ => ⟨S16x2048x4x128, .f32⟩
  | .hbm, ⟨39, _⟩ => ⟨S4x128, .f32⟩
  | .hbm, ⟨40, _⟩ => ⟨S16x2048x4x128, .f32⟩
  | .hbm, ⟨41, _⟩ => ⟨S_, .f32⟩
  | .hbm, ⟨42, _⟩ => ⟨S16x2048x4, .f32⟩
  | .hbm, ⟨43, _⟩ => ⟨S16x2048x4x1, .f32⟩
  | .hbm, ⟨44, _⟩ => ⟨S_, .f32⟩
  | .hbm, ⟨45, _⟩ => ⟨S16x2048x4x1, .f32⟩
  | .hbm, ⟨46, _⟩ => ⟨S16x2048x4x1, .f32⟩
  | .hbm, ⟨47, _⟩ => ⟨S_, .f32⟩
  | .hbm, ⟨48, _⟩ => ⟨S16x2048x4x1, .f32⟩
  | .hbm, ⟨49, _⟩ => ⟨S16x2048x4x1, .f32⟩
  | .hbm, ⟨50, _⟩ => ⟨S16x2048x4x1, .f32⟩
  | .hbm, ⟨51, _⟩ => ⟨S16x2048x4x128, .f32⟩
  | .hbm, ⟨52, _⟩ => ⟨S16x2048x4x128, .f32⟩
  | .hbm, ⟨53, _⟩ => ⟨S1x1x4x128, .f32⟩
  | .hbm, ⟨54, _⟩ => ⟨S16x2048x4x128, .f32⟩
  | .hbm, ⟨55, _⟩ => ⟨S16x2048x4x128, .f32⟩
  | .hbm, ⟨56, _⟩ => ⟨S16x2048x512, .f32⟩
  | .hbm, ⟨57, _⟩ => ⟨S16x2048x1024, .f32⟩
  | .hbm, ⟨58, _⟩ => ⟨S1024x1024, .f32⟩
  | .hbm, ⟨59, _⟩ => ⟨S16x2048x1024, .f32⟩
  | .hbm, ⟨60, _⟩ => ⟨S16x2048x1024, .f32⟩
  | .hbm, ⟨61, _⟩ => ⟨S32768x1024, .f32⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_cst : Ref sig .tc := ⟨.hbm, 23, rfl⟩
abbrev main_call0_v5 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_0 : Ref sig .tc := ⟨.hbm, 41, rfl⟩
abbrev main_v19 : Ref sig .tc := ⟨.hbm, 42, rfl⟩
abbrev main_v20 : Ref sig .tc := ⟨.hbm, 43, rfl⟩
abbrev main_cst_1 : Ref sig .tc := ⟨.hbm, 44, rfl⟩
abbrev main_v21 : Ref sig .tc := ⟨.hbm, 45, rfl⟩
abbrev main_v22 : Ref sig .tc := ⟨.hbm, 46, rfl⟩
abbrev main_cst_2 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩

abbrev nD : Nat := 1
abbrev τ : Topo := Topo.v7x

variable {F : FTy → Type} [FloatOps F]
-- ==== Proof.Math.lean ====
/- Attention's mathematics with no program in it: the softmax weights over the real numbers, once as 2 to a scaled score with no
   shift, once as the exponential of the score less the row's greatest score; the sum over a row's keys cut into the keys before
   the diagonal tile, the tile and the keys after it; and the weighted difference of two softmax maps applied to the values. -/
module

public import Idealize.ShloMosaic.PureOps
public import Idealize.ShloMosaic.Lib.Pointwise

@[expose] public section

noncomputable section

namespace Cert.Attn

open Idealize.ShloMosaic

/-- A row's weighted sum: over the keys `j` up to `x`, 2 to the score of `j` times the value of `j`. -/
def wsum (sc V : Fin 2048 → EReal) (x : Fin 2048) : EReal :=
  ∑ j, (if j ≤ x then Ideal.exp2 (sc j) else 0) * V j

/-- A sum over 2048 keys whose terms vanish from `lo + 256` on, cut at `lo`. -/
theorem sum_cut {lo : ℕ} (h : lo + 256 ≤ 2048) (f : Fin 2048 → EReal) (hz : ∀ j : Fin 2048, lo + 256 ≤ j.1 → f j = 0) :
    ∑ j, f j = (∑ j : Fin 256, f ⟨lo + j.1, by omega⟩) + ∑ j : Fin lo, f ⟨j.1, by omega⟩ := by
  set g : ℕ → EReal := fun j => if hj : j < 2048 then f ⟨j, hj⟩ else 0 with hg
  have e1 : ∑ j, f j = ∑ j ∈ Finset.range 2048, g j := by
    rw [Finset.sum_range]; exact Finset.sum_congr rfl fun j _ => by simp [hg]
  have e2 : (∑ j : Fin 256, f ⟨lo + j.1, by omega⟩) = ∑ j ∈ Finset.range 256, g (lo + j) := by
    rw [Finset.sum_range]
    exact Finset.sum_congr rfl fun j _ => by simp only [hg]; rw [dif_pos (by omega)]
  have e3 : (∑ j : Fin lo, f ⟨j.1, by omega⟩) = ∑ j ∈ Finset.range lo, g j := by
    rw [Finset.sum_range]
    exact Finset.sum_congr rfl fun j _ => by simp only [hg]; rw [dif_pos (by omega)]
  have e4 : (2048 : ℕ) = lo + 256 + (2048 - (lo + 256)) := by omega
  rw [e1, e2, e3, e4, Finset.sum_range_add, Finset.sum_range_add,
    Finset.sum_eq_zero (s := Finset.range (2048 - (lo + 256))), add_zero, add_comm]
  intro j hj
  simp only [hg]
  split
  · exact hz _ (by simp)
  · rfl

/-- The diagonal tile's masked sum plus the sum over the keys before it is the row's weighted sum. -/
theorem wsum_tile {lo : ℕ} (h : lo + 256 ≤ 2048) (sc V : Fin 2048 → EReal) (r : Fin 256) :
    wsum sc V ⟨lo + r.1, by omega⟩
      = (∑ j : Fin 256, Ideal.exp2 (if j.1 ≤ r.1 then sc ⟨lo + j.1, by omega⟩ else ⊥) * V ⟨lo + j.1, by omega⟩)
        + ∑ j : Fin lo, Ideal.exp2 (sc ⟨j.1, by omega⟩) * V ⟨j.1, by omega⟩ := by
  unfold wsum
  rw [sum_cut h]
  · congr 1
    · refine Finset.sum_congr rfl fun j _ => ?_
      by_cases hj : j.1 ≤ r.1
      · rw [if_pos (by rw [Fin.le_def]; show lo + j.1 ≤ lo + r.1; omega), if_pos hj]
      · rw [if_neg (by rw [Fin.le_def]; show ¬ lo + j.1 ≤ lo + r.1; omega), if_neg hj]; rfl
    · refine Finset.sum_congr rfl fun j _ => ?_
      rw [if_pos (by rw [Fin.le_def]; show j.1 ≤ lo + r.1; omega)]
  · intro j hj
    rw [if_neg (by rw [Fin.le_def]; show ¬ j.1 ≤ lo + r.1; omega), zero_mul]

/-- The same for the first tile, which has no keys before it. -/
theorem wsum_first (sc V : Fin 2048 → EReal) (r : Fin 256) :
    wsum sc V ⟨r.1, by omega⟩
      = ∑ j : Fin 256, Ideal.exp2 (if j.1 ≤ r.1 then sc ⟨j.1, by omega⟩ else ⊥) * V ⟨j.1, by omega⟩ := by
  have := wsum_tile (lo := 0) (by omega) sc V r
  simpa using this

/-- The real weight of key `j` in row `x`: the exponential of its score up to the diagonal, 0 after it. -/
def wt (s : Fin 2048 → ℝ) (x j : Fin 2048) : ℝ := if j ≤ x then Real.exp (s j) else 0

theorem wt_nonneg (s : Fin 2048 → ℝ) (x j : Fin 2048) : 0 ≤ wt s x j := by
  unfold wt; split
  · exact (Real.exp_pos _).le
  · exact le_rfl

theorem total_pos (s : Fin 2048 → ℝ) (x : Fin 2048) : 0 < ∑ j, wt s x j :=
  Finset.sum_pos' (fun j _ => wt_nonneg s x j) ⟨x, Finset.mem_univ _, by simp [wt, Real.exp_pos]⟩

theorem coe_sum {ι : Type} (t : Finset ι) (f : ι → ℝ) : ((∑ j ∈ t, f j : ℝ) : EReal) = ∑ j ∈ t, (f j : EReal) :=
  map_sum (⟨⟨Real.toEReal, EReal.coe_zero⟩, EReal.coe_add⟩ : ℝ →+ EReal) f t

theorem exp2_log2e (r : ℝ) : Ideal.exp2 ((r * (Real.log 2)⁻¹ : ℝ) : EReal) = (Real.exp r : EReal) := by
  show ((Real.rpow 2 (r * (Real.log 2)⁻¹) : ℝ) : EReal) = _
  congr 1
  show (2 : ℝ) ^ (r * (Real.log 2)⁻¹) = _
  rw [Real.rpow_def_of_pos (by norm_num)]
  congr 1
  have : Real.log 2 ≠ 0 := (Real.log_pos (by norm_num)).ne'
  field_simp

/-- With real scores (in units of `log 2`) and real values, a row's weighted sum is the real one. -/
theorem wsum_coe (sc V : Fin 2048 → EReal) (s v : Fin 2048 → ℝ) (hs : ∀ j, sc j = ((s j * (Real.log 2)⁻¹ : ℝ) : EReal))
    (hv : ∀ j, V j = (v j : EReal)) (x : Fin 2048) : wsum sc V x = ((∑ j, wt s x j * v j : ℝ) : EReal) := by
  unfold wsum
  rw [coe_sum]
  refine Finset.sum_congr rfl fun j _ => ?_
  rw [hs, hv, exp2_log2e]
  unfold wt
  split
  · rw [EReal.coe_mul]
  · simp

/-- A row's masked score: the score up to the diagonal, −∞ after it. -/
def masked (s : Fin 2048 → ℝ) (x j : Fin 2048) : EReal := if j ≤ x then (s j : EReal) else ⊥

/-- The greatest masked score of a row is a real number: the diagonal's score is one, and none is +∞. -/
theorem fold_max_real (s : Fin 2048 → ℝ) (x : Fin 2048) :
    ∃ M : ℝ, Finset.univ.fold max (⊥ : EReal) (masked s x) = (M : EReal) := by
  have hsup : Finset.univ.fold max (⊥ : EReal) (masked s x) = Finset.univ.sup (masked s x) := rfl
  rw [hsup]
  have hlo : (s x : EReal) ≤ Finset.univ.sup (masked s x) := by
    have := Finset.le_sup (f := masked s x) (Finset.mem_univ x)
    simpa [masked] using this
  have hhi : Finset.univ.sup (masked s x) < ⊤ := by
    rw [Finset.sup_lt_iff (by exact bot_lt_top)]
    intro j _
    unfold masked; split
    · exact EReal.coe_lt_top _
    · exact bot_lt_top
  exact ⟨_, (EReal.coe_toReal hhi.ne (fun h => by rw [h] at hlo; exact absurd hlo (by simp))).symm⟩

/-- The shifted exponential of a masked score is the real weight over the exponential of the shift. -/
theorem exp_masked (s : Fin 2048 → ℝ) (x j : Fin 2048) (M : ℝ) :
    Ideal.exp (masked s x j - (M : EReal)) = ((wt s x j * Real.exp (-M) : ℝ) : EReal) := by
  unfold masked wt
  split
  · rw [← EReal.coe_sub, ← Real.exp_add]; rfl
  · rw [EReal.bot_sub, zero_mul]; rfl

theorem div_coe_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The softmax weight of key `j` in row `x`, as a program computes it with the row's maximum taken off, is the real one. -/
theorem softmax_coe (s : Fin 2048 → ℝ) (x j : Fin 2048) (M : EReal)
    (hM : M = Finset.univ.fold max (⊥ : EReal) (masked s x)) :
    Ideal.div (Ideal.exp (masked s x j - M)) (∑ i, Ideal.exp (masked s x i - M))
      = ((wt s x j / ∑ i, wt s x i : ℝ) : EReal) := by
  obtain ⟨r, hr⟩ := fold_max_real s x
  rw [hM, hr]
  simp only [exp_masked]
  rw [← coe_sum, ← Finset.sum_mul, div_coe_coe _ _ (mul_pos (total_pos s x) (Real.exp_pos _)).ne',
    mul_div_mul_right _ _ (Real.exp_pos _).ne']

/-- The value of one row and one value column: the first map's average of the values less `lam` times the second's. -/
def att (s0 s1 v : Fin 2048 → ℝ) (lam : ℝ) (x : Fin 2048) : ℝ :=
  (∑ j, wt s0 x j * v j) / (∑ j, wt s0 x j) - lam * ((∑ j, wt s1 x j * v j) / ∑ j, wt s1 x j)

/-- Weighting the values by the difference of the two maps is the difference of the two averages. -/
theorem att_eq (s0 s1 v : Fin 2048 → ℝ) (lam : ℝ) (x : Fin 2048) :
    ∑ j, v j * (wt s0 x j / (∑ i, wt s0 x i) - lam * (wt s1 x j / ∑ i, wt s1 x i)) = att s0 s1 v lam x := by
  unfold att
  rw [Finset.sum_div, Finset.sum_div, Finset.mul_sum, ← Finset.sum_sub_distrib]
  exact Finset.sum_congr rfl fun j _ => by ring

/-- A product with one factor masked to the first 64 of 128 lanes. -/
theorem sum_first_half (a k : Fin 128 → EReal) :
    (∑ d : Fin 128, (if d.1 < 64 then a d else 0) * k d) = ∑ d : Fin 64, a ⟨d.1, by omega⟩ * k ⟨d.1, by omega⟩ := by
  have := Fin.sum_univ_add (a := 64) (b := 64) (fun d : Fin 128 => (if d.1 < 64 then a d else 0) * k d)
  refine this.trans ?_
  rw [Finset.sum_eq_zero (s := Finset.univ) (f := fun d : Fin 64 => (if (Fin.natAdd 64 d).1 < 64 then a (Fin.natAdd 64 d) else 0) * k (Fin.natAdd 64 d))
    (fun d _ => by rw [if_neg (by simp), zero_mul]), add_zero]
  exact Finset.sum_congr rfl fun d _ => by rw [if_pos (by simp)]; rfl

/-- A product with one factor masked to the last 64 of 128 lanes. -/
theorem sum_last_half (a k : Fin 128 → EReal) :
    (∑ d : Fin 128, (if d.1 < 64 then 0 else a d) * k d) = ∑ d : Fin 64, a ⟨64 + d.1, by omega⟩ * k ⟨64 + d.1, by omega⟩ := by
  have := Fin.sum_univ_add (a := 64) (b := 64) (fun d : Fin 128 => (if d.1 < 64 then 0 else a d) * k d)
  refine this.trans ?_
  rw [Finset.sum_eq_zero (s := Finset.univ) (f := fun d : Fin 64 => (if (Fin.castAdd 64 d).1 < 64 then 0 else a (Fin.castAdd 64 d)) * k (Fin.castAdd 64 d))
    (fun d _ => by rw [if_pos (by simp), zero_mul]), zero_add]
  exact Finset.sum_congr rfl fun d _ => by rw [if_neg (by simp)]; rfl

end Cert.Attn

end
-- ==== Proof.KernelBlock.lean ====
/- The kernel's body at one grid point: the block of the result that it leaves, read at a row and a column of one of its two heads,
   as a function of the input blocks. Each of the sixteen tiles stored is the same formula at its own rows and columns. -/
module

public import proofs.«01_k».proof.Proof.Math
public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Hand

open Idealize.ShloMosaic Idealize.ShloMosaic.TcCoe Cert.KernelIdeal Cert.KernelIdeal.Gen

variable (c : Dev nD) (i : grid0.Coords) (arg2 : Memref sig .tc .vmem S4x64 .f32) (harg2 : arg2.IsWhole) (arg3 : Memref sig .tc .vmem S1x128 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S2x2048x256 .bf16) (harg8 : arg8.IsWhole)
    (b0 : Vec Ideal S4x64 .f32) (b1 : Vec Ideal S1x128 .f32) (b2 : Vec Ideal S1x2048x256 .bf16) (b3 : Vec Ideal S1x2048x256 .bf16) (b4 : Vec Ideal S1x2048x256 .bf16)

def scr (b4 : Vec Ideal S1x2048x256 .bf16) : Vec Ideal S2x2048x256 .bf16 := fun j =>
  if h : (j 2).1 < 128 then b4 (ix3 0 (j 1) ⟨(j 0).1 * 128 + (j 2).1, by have := (j 0).2; have : S2x2048x256.size 0 = 2 := rfl; omega⟩) else (1 : EReal)

theorem scr_ones (j : S2x2048x256.Idx) (h : 128 ≤ (j 2).1) : scr b4 j = 1 := dif_neg (by omega)

theorem scr_val (j : S2x2048x256.Idx) (x : Fin 2048) (v : Fin 256) (h : (j 2).1 < 128) (h1 : (j 1).1 = x.1) (h2 : (j 0).1 * 128 + (j 2).1 = v.1) :
    scr b4 j = b4 (ix3 0 x v) := by
  unfold scr
  rw [dif_pos h]
  have e1 : j 1 = x := Fin.ext h1
  rw [e1]
  congr 1
  have e2 : (⟨(j 0).1 * 128 + (j 2).1, by omega⟩ : Fin 256) = v := Fin.ext h2
  rw [e2]

theorem scr_hi (a : Fin 2) (j : Fin 2048) (v : Fin 128) (h : 128 + v.1 < 256) : scr b4 (ix3 a j ⟨128 + v.1, h⟩) = 1 :=
  scr_ones b4 _ (Nat.le_add_right _ _)

theorem scr_lo0 (j : Fin 2048) (v : Fin 128) (h : v.1 < 256) : scr b4 (ix3 0 j ⟨v.1, h⟩) = b4 (ix3 0 j ⟨v.1, h⟩) :=
  scr_val b4 _ j _ v.2 rfl (Nat.zero_add _)

theorem scr_lo1 (j : Fin 2048) (v : Fin 128) (h : v.1 < 256) : scr b4 (ix3 1 j ⟨v.1, h⟩) = b4 (ix3 0 j ⟨128 + v.1, by omega⟩) :=
  scr_val b4 _ j _ v.2 rfl rfl

theorem canon_scr (p q) (h1 h3 : S1x2048x128.ShapeCasts S2048x128) (h2 h4 : S2048x128.ShapeCasts S1x2048x128) (j : S2x2048x256.Idx) :
    View.canon (s := S2x2048x256) (e := .bf16) (Val := Elt Ideal)
          [⟨Rect.unit ![1, 0, 128] ![1, 2048, 128] (by decide), k0_pay9 (F := Ideal)⟩,
            ⟨Rect.unit ![1, 0, 0] ![1, 2048, 128] (by decide),
              k0_pay8 (F := Ideal) (shapeCast S2048x128 (View.ld b4 (Rect.unit ![0, 0, 128] ![1, 2048, 128] p) : FVec Ideal S1x2048x128 .bf16) h1)⟩,
            ⟨Rect.unit ![0, 0, 128] ![1, 2048, 128] (by decide),
              (shapeCast S1x2048x128 (broadcast S2048x128 (FloatOps.ofBits .bf16 0x3F80#16)) h2 : FVec Ideal S1x2048x128 .bf16)⟩,
            ⟨Rect.unit ![0, 0, 0] ![1, 2048, 128] (by decide),
              (shapeCast S1x2048x128 (shapeCast S2048x128 (View.ld b4 (Rect.unit ![0, 0, 0] ![1, 2048, 128] q) : FVec Ideal S1x2048x128 .bf16) h3) h4 : FVec Ideal S1x2048x128 .bf16)⟩] j = scr b4 j := by
  canon_tiles x h
  all_goals
    unfold_payloads
    idx_vars x
    pointwise
  case piece0 => exact (scr_ones b4 j (by omega)).symm
  case piece1 => exact (scr_val b4 j x1 ⟨128 + x2.1, by omega⟩ (by omega) h1 (by show (j 0).1 * 128 + (j 2).1 = 128 + x2.1; omega)).symm
  case piece2 => exact (scr_ones b4 j (by omega)).symm
  case piece3 => exact (scr_val b4 j x1 ⟨x2.1, by omega⟩ (by omega) h1 (by show (j 0).1 * 128 + (j 2).1 = x2.1; omega)).symm

theorem named_log2e : (Named.named (F := Ideal) κ "log2e" 0x3FB8AA3B#32 : Ideal .f32) = (((Real.log 2)⁻¹ : ℝ) : EReal) := by
  exact IdealRules.named_const.ideal_named_scalar _ _ _ _ rfl

theorem named_mask : (Named.named (F := Ideal) κ "mask" 0xF149F2CA#32 : Ideal .f32) = (⊥ : EReal) := by
  exact IdealRules.named_const.ideal_named_scalar _ _ _ _ rfl

/-- The score of key `j` in row `x` of the first map of the head whose columns start at `off`. -/
def sc0 (off : ℕ) (ho : off + 128 ≤ 256) (x j : Fin 2048) : EReal :=
  ∑ d : Fin 128, Scalar.select (IntOp.cmpi .slt (BitVec.ofNat 32 d.1) 64#32)
    (b2 (ix3 0 x ⟨off + d.1, by omega⟩) * (Named.named (F := Ideal) (φ := .f32) κ "log2e" 0x3FB8AA3B#32 : EReal) * b3 (ix3 0 j ⟨off + d.1, by omega⟩) : EReal) 0

/-- … and of its second map. -/
def sc1 (off : ℕ) (ho : off + 128 ≤ 256) (x j : Fin 2048) : EReal :=
  ∑ d : Fin 128, Scalar.select (IntOp.cmpi .slt (BitVec.ofNat 32 d.1) 64#32) 0
    (b2 (ix3 0 x ⟨off + d.1, by omega⟩) * (Named.named (F := Ideal) (φ := .f32) κ "log2e" 0x3FB8AA3B#32 : EReal) * b3 (ix3 0 j ⟨off + d.1, by omega⟩) : EReal)

/-- Value column `v` of the head. -/
def val (off : ℕ) (ho : off + 128 ≤ 256) (v : Fin 128) (j : Fin 2048) : EReal := b4 (ix3 0 j ⟨off + v.1, by omega⟩)

/-- The factor of the second map. -/
def lam : EReal :=
  Ideal.exp (∑ x : Fin 64, b0 (ix2 0 x) * b0 (ix2 1 x)) - Ideal.exp (∑ x : Fin 64, b0 (ix2 2 x) * b0 (ix2 3 x)) + Ideal.ofBits .f32 0x3E4CCCCD#32

open Cert.Attn in
/-- The attention of one row and value column before its norm. -/
def attB (off : ℕ) (ho : off + 128 ≤ 256) (x : Fin 2048) (v : Fin 128) : EReal :=
  Ideal.div (wsum (sc0 b2 b3 off ho x) (val b4 off ho v) x) (wsum (sc0 b2 b3 off ho x) (fun _ => 1) x)
    - lam b0 * Ideal.div (wsum (sc1 b2 b3 off ho x) (val b4 off ho v) x) (wsum (sc1 b2 b3 off ho x) (fun _ => 1) x)

/-- … and after it. -/
def outB (off : ℕ) (ho : off + 128 ≤ 256) (x : Fin 2048) (v : Fin 128) : EReal :=
  attB b0 b2 b3 b4 off ho x v * Ideal.rsqrt (Ideal.div (∑ w : Fin 128, attB b0 b2 b3 b4 off ho x w * attB b0 b2 b3 b4 off ho x w)
      (Ideal.ofBits .f32 0x43000000#32) + Ideal.ofBits .f32 0x358637BD#32) * b1 (ix2 0 v) * Ideal.ofBits .f32 0x3F4CCCCD#32

/-- The block of the result. -/
def blockB : Vec Ideal S1x2048x256 .bf16 := fun y =>
  outB b0 b1 b2 b3 b4 ((y 2).1 / 128 * 128) (by have := (y 2).2; have : S1x2048x256.size 2 = 256 := rfl; omega) (y 1) ⟨(y 2).1 % 128, by omega⟩

theorem blockB_apply (off : ℕ) (ho : off + 128 ≤ 256) (hd : off = 0 ∨ off = 128) (x : Fin 2048) (v : Fin 128) (y : S1x2048x256.Idx)
    (h1 : (y 1).1 = x.1) (h2 : (y 2).1 = off + v.1) : blockB b0 b1 b2 b3 b4 y = outB b0 b1 b2 b3 b4 off ho x v := by
  have e : (y 2).1 / 128 * 128 = off := by omega
  have e1 : y 1 = x := Fin.ext h1
  unfold blockB
  rw [e1]
  have e2 : (⟨(y 2).1 % 128, by omega⟩ : Fin 128) = v := Fin.ext (by show (y 2).1 % 128 = v.1; omega)
  rw [e2]
  congr 1

theorem blockB_lo {n : ℕ} {v : Fin 128} (y : S1x2048x256.Idx) (h1 : (y 1).1 = n) (h2 : (y 2).1 = v.1) :
    blockB b0 b1 b2 b3 b4 y = outB b0 b1 b2 b3 b4 0 (by omega) ⟨n, h1 ▸ (y 1).2⟩ v :=
  blockB_apply b0 b1 b2 b3 b4 0 _ (.inl rfl) _ v y h1 (h2.trans (Nat.zero_add _).symm)

theorem blockB_hi {n : ℕ} {v : Fin 128} (y : S1x2048x256.Idx) (h1 : (y 1).1 = n) (h2 : (y 2).1 = 128 + v.1) :
    blockB b0 b1 b2 b3 b4 y = outB b0 b1 b2 b3 b4 128 (by omega) ⟨n, h1 ▸ (y 1).2⟩ v :=
  blockB_apply b0 b1 b2 b3 b4 128 _ (.inr rfl) _ v y h1 h2

theorem select_sle {a b : ℕ} (ha : a < 2 ^ 31) (hb : b < 2 ^ 31) (u v : EReal) :
    Scalar.select (IntOp.cmpi .sle (BitVec.ofNat 32 a) (BitVec.ofNat 32 b)) u v = if a ≤ b then u else v := by
  rw [WordCmp.cmpi_sle_ofNat ha hb]
  by_cases h : a ≤ b <;> simp [h, Scalar.select]

theorem select_slt {a b : ℕ} (ha : a < 2 ^ 31) (hb : b < 2 ^ 31) (u v : EReal) :
    Scalar.select (IntOp.cmpi .slt (BitVec.ofNat 32 a) (BitVec.ofNat 32 b)) u v = if a < b then u else v := by
  rw [WordCmp.cmpi_slt_ofNat ha hb]
  by_cases h : a < b <;> simp [h, Scalar.select]

open Cert.Attn in
/-- `wsum_tile` with the mask as the kernel spells it. -/
theorem wtile {lo : ℕ} (h : lo + 256 ≤ 2048) (sc V : Fin 2048 → EReal) (r : Fin 256) (hr : lo + r.1 < 2048) :
    wsum sc V ⟨lo + r.1, hr⟩
      = (∑ j : Fin 256, FloatOps.exp2 (F := Ideal) (φ := .f32) (Scalar.select (IntOp.cmpi .sle (BitVec.ofNat 32 j.1) (BitVec.ofNat 32 r.1))
            (sc ⟨lo + j.1, by omega⟩) (Named.named (F := Ideal) (φ := .f32) κ "mask" 0xF149F2CA#32)) * V ⟨lo + j.1, by omega⟩ : EReal)
        + ∑ j : Fin lo, FloatOps.exp2 (F := Ideal) (φ := .f32) (sc ⟨j.1, by omega⟩) * V ⟨j.1, by omega⟩ := by
  rw [wsum_tile h]
  congr 1
  refine Finset.sum_congr rfl fun j _ => ?_
  rw [named_mask, select_sle (by omega) (by omega)]
  rfl

open Cert.Attn in
/-- The same for the first tile. -/
theorem wtile0 (sc V : Fin 2048 → EReal) (r : Fin 256) (hr : r.1 < 2048) :
    wsum sc V ⟨r.1, hr⟩
      = ∑ j : Fin 256, FloatOps.exp2 (F := Ideal) (φ := .f32) (Scalar.select (IntOp.cmpi .sle (BitVec.ofNat 32 j.1) (BitVec.ofNat 32 r.1))
            (sc ⟨j.1, by omega⟩) (Named.named (F := Ideal) (φ := .f32) κ "mask" 0xF149F2CA#32)) * V ⟨j.1, by omega⟩ := by
  have := wtile (lo := 0) (by omega) sc V r (by omega)
  simpa using this

set_option maxHeartbeats 8000000 in
-- sixteen tiles, each read at an index
/-- What the kernel leaves in its output block, at every row and column. -/
theorem out_eq : out0_A_5 (F := Ideal) c i arg2 harg2 arg3 harg3 arg4 harg4 arg5 harg5 arg6 harg6 arg7 harg7 arg8 harg8 b0 b1 b2 b3 b4 = blockB b0 b1 b2 b3 b4 := by
  frame_open
  frame_out
  simp only [View.readCov_eq_canon']
  simp only [canon_scr]
  funext y
  canon_tiles x h
  all_goals
    unfold_payloads
    idx_vars x
    pointwise
    first | rw [blockB_hi _ _ _ _ _ y h1 h2] | rw [blockB_lo _ _ _ _ _ y h1 h2]
    simp (disch := omega) only [outB, attB, wtile, wtile0, sc0, sc1, val, lam, scr_hi, scr_lo0, scr_lo1, Nat.zero_add]

end Cert.KernelIdeal.Hand

end
-- ==== Proof.KernelArray.lean ====
/- The kernel's result as one array of the arguments: the blocks written at the grid's points, put together, each input block
   read off the array that the host operations before the call leave. -/
module

public import proofs.«01_k».proof.Proof.KernelBlock
public import proofs.«01_k».proof.Proof.Gen.KernelIdeal.Value
public import Idealize.ShloMosaic.Lib.StableHlo.Run

@[expose] public section

set_option maxRecDepth 16384

noncomputable section

namespace Cert.KernelIdeal.Hand

open Idealize.ShloMosaic Idealize.ShloMosaic.TcCoe Cert.KernelIdeal Cert.KernelIdeal.Gen Cert.KernelIdeal.Value Idealize.ShloMosaic.StableHlo

variable (m : (ℓ : Loc nD τ sig) → Buf (Elt Ideal) ℓ) (c : Dev nD)

/-! ## What the host operations leave -/

/-- The arguments. -/
def argQ : FVec Ideal S16x2048x512 .f32 := m ((c.tc : Thread nD τ).loc main_arg0)
def argK : FVec Ideal S16x2048x512 .f32 := m ((c.tc : Thread nD τ).loc main_arg1)
def argV : FVec Ideal S16x2048x512 .f32 := m ((c.tc : Thread nD τ).loc main_arg2)
def argL0 : FVec Ideal S1x64 .f32 := m ((c.tc : Thread nD τ).loc main_arg3)
def argL1 : FVec Ideal S1x64 .f32 := m ((c.tc : Thread nD τ).loc main_arg4)
def argL2 : FVec Ideal S1x64 .f32 := m ((c.tc : Thread nD τ).loc main_arg5)
def argL3 : FVec Ideal S1x64 .f32 := m ((c.tc : Thread nD τ).loc main_arg6)
def argG : FVec Ideal S1x128 .f32 := m ((c.tc : Thread nD τ).loc main_arg7)

/-- The arrays that the call reads: the lambda vectors, the norm's gain, queries beside keys, and the values. -/
def inL : FVec Ideal S4x64 .f32 := V m c main_v10
def inG : FVec Ideal S1x128 .f32 := V m c main_v12
def inQK : FVec Ideal S16x2048x1024 .bf16 := V m c main_v1
def inV : FVec Ideal S16x2048x512 .bf16 := V m c main_v13

theorem inQK_eq : inQK m c = truncf .bf16 (concatenate S16x2048x1024 2 [⟨S16x2048x512, argQ m c⟩, ⟨S16x2048x512, argK m c⟩] concatenates_S16x2048x512_S16x2048x512_S16x2048x1024_d2) bitsLt_bf16_f32 := by
  unfold inQK V
  after_results_simp
  rfl

theorem inQK_q (b : Fin 16) (x : Fin 2048) (u : Fin 512) : inQK m c (ix3 b x ⟨u.1, by omega⟩) = argQ m c (ix3 b x u) := by
  rw [inQK_eq]
  pointwise

theorem inQK_k (b : Fin 16) (x : Fin 2048) (u : Fin 512) : inQK m c (ix3 b x ⟨512 + u.1, by omega⟩) = argK m c (ix3 b x u) := by
  rw [inQK_eq]
  pointwise

theorem inV_apply (j : S16x2048x512.Idx) : inV m c j = argV m c j := by
  have e : inV m c = truncf .bf16 (argV m c) bitsLt_bf16_f32 := by
    unfold inV V
    after_results_simp
    rfl
  rw [e]; rfl

theorem inG_apply (v : Fin 128) : inG m c (ix2 0 v) = argG m c (ix2 0 v) := by
  have e : inG m c = shapeCast _ (shapeCast _ (argG m c) shapeCasts_S1x128_S128) shapeCasts_S128_S1x128 := by
    unfold inG V
    after_results_simp
    rfl
  rw [e]
  pointwise

/-- A row of the stack of the lambda vectors, as the host makes it. -/
def lamRow (a : FVec Ideal S1x64 .f32) : FVec Ideal S1x64 .f32 := broadcastInDim S1x64 ![1] bcast_S64_S1x64_1 (shapeCast S64 a shapeCasts_S1x64_S64)

theorem inL_eq : inL m c
    = concatenate S4x64 0 [⟨S1x64, lamRow (argL0 m c)⟩, ⟨S1x64, lamRow (argL1 m c)⟩, ⟨S1x64, lamRow (argL2 m c)⟩, ⟨S1x64, lamRow (argL3 m c)⟩] concatenates_S1x64_S1x64_S1x64_S1x64_S4x64_d0 := by
  unfold inL V
  after_results_simp
  rfl

theorem lam_inL : lam (inL m c)
    = Ideal.exp (∑ x : Fin 64, argL0 m c (ix2 0 x) * argL1 m c (ix2 0 x)) - Ideal.exp (∑ x : Fin 64, argL2 m c (ix2 0 x) * argL3 m c (ix2 0 x))
      + Ideal.ofBits .f32 0x3E4CCCCD#32 := by
  rw [inL_eq]
  unfold lam lamRow
  pointwise

/-! ## The result's array -/

theorem ix_0 : ∀ t : Fin cfg0.N, win0_0.index t = ![0, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![(grid0.coords t 0).val, 0, (grid0.coords t 1).val] := (by decide +kernel : ∀ t : Fin grid0.N, _)
theorem ix_3 : ∀ t : Fin cfg0.N, win0_3.index t = ![(grid0.coords t 0).val, 0, 2 + (grid0.coords t 1).val] := (by decide +kernel : ∀ t : Fin grid0.N, _)
theorem ix_4 : ∀ t : Fin cfg0.N, win0_4.index t = ![(grid0.coords t 0).val, 0, (grid0.coords t 1).val] := (by decide +kernel : ∀ t : Fin grid0.N, _)
theorem ix_5 : ∀ t : Fin cfg0.N, win0_5.index t = ![(grid0.coords t 0).val, 0, (grid0.coords t 1).val] := (by decide +kernel : ∀ t : Fin grid0.N, _)

/-- A head pair's block of an array: batch `b`, columns `256 g …`. -/
def blkOf {n : ℕ} (a : FVec Ideal ⟨3, ![16, 2048, n]⟩ .bf16) (b : Fin 16) (g : ℕ) (hg : g * 256 + 256 ≤ n) : Vec Ideal S1x2048x256 .bf16 :=
  fun y => a (ix3 b (y 1) ⟨g * 256 + (y 2).1, by have := (y 2).2; have : S1x2048x256.size 2 = 256 := rfl; omega⟩)

theorem lt_0 (t : Fin cfg0.N) : (grid0.coords t 0).val < 16 := (grid0.coords t 0).2
theorem lt_1 (t : Fin cfg0.N) : (grid0.coords t 1).val < 2 := (grid0.coords t 1).2

theorem blk_0 (t : Fin cfg0.N) : (iblk m c 0 t : Vec Ideal S4x64 .f32) = inL m c := by
  funext y
  unfold inL
  blk_ext [iblk, ix_0]

theorem blk_1 (t : Fin cfg0.N) : (iblk m c 1 t : Vec Ideal S1x128 .f32) = inG m c := by
  funext y
  unfold inG
  blk_ext [iblk, ix_1]

theorem blk_2 (t : Fin cfg0.N) : (iblk m c 2 t : Vec Ideal S1x2048x256 .bf16)
    = blkOf (inQK m c) ⟨(grid0.coords t 0).val, lt_0 t⟩ (grid0.coords t 1).val (by have := lt_1 t; omega) := by
  funext y
  unfold blkOf inQK
  blk_ext [iblk, ix_2]

theorem blk_3 (t : Fin cfg0.N) : (iblk m c 3 t : Vec Ideal S1x2048x256 .bf16)
    = blkOf (inQK m c) ⟨(grid0.coords t 0).val, lt_0 t⟩ (2 + (grid0.coords t 1).val) (by have := lt_1 t; omega) := by
  funext y
  unfold blkOf inQK
  blk_ext [iblk, ix_3]

theorem blk_4 (t : Fin cfg0.N) : (iblk m c 4 t : Vec Ideal S1x2048x256 .bf16)
    = blkOf (inV m c) ⟨(grid0.coords t 0).val, lt_0 t⟩ (grid0.coords t 1).val (by have := lt_1 t; omega) := by
  funext y
  unfold blkOf inV
  blk_ext [iblk, ix_4]

/-- The result at batch `b`, head pair `g`, row `x`, and column `o` of the pair's 256. -/
def outG (b : Fin 16) (g : ℕ) (hg : g < 2) (y : S1x2048x256.Idx) : EReal :=
  blockB (inL m c) (inG m c) (blkOf (inQK m c) b g (by omega)) (blkOf (inQK m c) b (2 + g) (by omega)) (blkOf (inV m c) b g (by omega)) y

/-- The result. -/
def resG : FVec Ideal S16x2048x512 .bf16 := fun j =>
  outG m c (j 0) ((j 2).1 / 256) (by have := (j 2).2; have : S16x2048x512.size 2 = 512 := rfl; omega) (ix3 0 (j 1) ⟨(j 2).1 % 256, by omega⟩)

theorem resG_apply (b : Fin 16) (g : ℕ) (hg : g < 2) (y : S1x2048x256.Idx) (j : S16x2048x512.Idx) (h0 : (j 0).1 = b.1) (h1 : (j 1).1 = (y 1).1)
    (h2 : (j 2).1 = g * 256 + (y 2).1) : outG m c b g hg y = resG m c j := by
  have hy := (y 2).2
  have : S1x2048x256.size 2 = 256 := rfl
  have e0 : j 0 = b := Fin.ext h0
  have e1 : g = (j 2).1 / 256 := by omega
  have e2 : y = ix3 0 (j 1) ⟨(j 2).1 % 256, by omega⟩ := by
    funext a
    apply Fin.ext
    match a with
    | 0 => have := (y 0).2; have : S1x2048x256.size 0 = 1 := rfl; show (y 0).1 = 0; omega
    | 1 => exact h1.symm
    | 2 => show (y 2).1 = (j 2).1 % 256; omega
  unfold resG
  rw [e0]
  subst e1
  exact congrArg _ e2

theorem arr_eq : (dats m 0 c).arrAt 5 cfg0.N = resG m c := by
  refine (dats m 0 c).arrAt_eq_of_covers 5 _ (by decide +kernel) fun t hf y => ?_
  blk_simp
  rw [after0_5]
  unfold outsAt0
  rw [out_eq, blk_0, blk_1, blk_2, blk_3, blk_4]
  refine resG_apply m c ⟨(grid0.coords t 0).val, lt_0 t⟩ (grid0.coords t 1).val (lt_1 t) y _ ?_ ?_ ?_
  all_goals blk_simp [ix_5]

end Cert.KernelIdeal.Hand

end
-- ==== Proof.ReferenceRow.lean ====
/- The reference, read at an index: its masked scores, their softmax, the factor of the second map, the weighted values and
   the norm, each stated of any arrays, then put together. -/
module

public import proofs.«01_k».proof.Proof.Math
public import proofs.«01_k».proof.Proof.Gen.ReferenceIdeal
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.ReferenceIdeal.Hand

open Idealize.ShloMosaic Idealize.ShloMosaic.TcCoe Cert.ReferenceIdeal Cert.ReferenceIdeal.Gen Cert.ReferenceIdeal.Value

/-- The masked scores of both maps of every head. -/
def scoreA (a0 a1 : FVec Ideal S16x2048x512 .f32) : FVec Ideal S16x4x2x2048x2048 .f32 :=
  select (broadcastInDim S16x4x2x2048x2048 ![3, 4] bcast_S2048x2048_S16x4x2x2048x2048_3_4 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (Host.dotGeneral dot_S16x2048x4x2x64_S16x2048x4x2x64_S16x4x2x2048x2048_4_4_1_1_023_023 none (shapeCast _ a0 shapeCasts_S16x2048x512_S16x2048x4x2x64) (shapeCast _ a1 shapeCasts_S16x2048x512_S16x2048x4x2x64)) (broadcastInDim S16x4x2x2048x2048 ![] bcast_S_S16x4x2x2048x2048 (id (constant S_ .f32 0xFF800000#32)))

/-- The greatest score of each row. -/
def maxA (s : FVec Ideal S16x4x2x2048x2048 .f32) : FVec Ideal S16x4x2x2048 .f32 :=
  maximumf (broadcastInDim S16x4x2x2048 ![] bcast_S_S16x4x2x2048 (constant S_ .f32 0xFF800000#32)) (Host.reduce FloatOps.maximumf s (constant S_ .f32 0xFF800000#32) reducesTo_S16x4x2x2048x2048_S16x4x2x2048_d4 h_S_)

/-- A number of each row, at every key. -/
def rowA (r : FVec Ideal S16x4x2x2048 .f32) : FVec Ideal S16x4x2x2048x2048 .f32 :=
  broadcastInDim S16x4x2x2048x2048 ![0, 1, 2, 3, 4] bcast_S16x4x2x2048x1_S16x4x2x2048x2048_0_1_2_3_4 (broadcastInDim S16x4x2x2048x1 ![0, 1, 2, 3] bcast_S16x4x2x2048_S16x4x2x2048x1_0_1_2_3 r)

/-- The exponentials of the scores less their row's number. -/
def expA (s : FVec Ideal S16x4x2x2048x2048 .f32) (r : FVec Ideal S16x4x2x2048 .f32) : FVec Ideal S16x4x2x2048x2048 .f32 := Host.exp (subf s (rowA r))

/-- Each row's sum. -/
def sumA (e : FVec Ideal S16x4x2x2048x2048 .f32) : FVec Ideal S16x4x2x2048 .f32 :=
  Host.reduceAdd e (constant S_ .f32 0x00000000#32) reducesTo_S16x4x2x2048x2048_S16x4x2x2048_d4 h_S_

/-- The softmax over the keys. -/
def softA (s : FVec Ideal S16x4x2x2048x2048 .f32) : FVec Ideal S16x4x2x2048x2048 .f32 := Host.divf (expA s (maxA s)) (rowA (sumA (expA s (maxA s))))

/-- The factor of the second map. -/
def lamA (a3 a4 a5 a6 : FVec Ideal S1x64 .f32) : FVec Ideal S_ .f32 :=
  addf (subf (Host.exp (Host.reduceAdd (mulf (shapeCast _ a3 shapeCasts_S1x64_S64) (shapeCast _ a4 shapeCasts_S1x64_S64)) (constant S_ .f32 0x00000000#32) reducesTo_S64_S_d0 h_S_)) (Host.exp (Host.reduceAdd (mulf (shapeCast _ a5 shapeCasts_S1x64_S64) (shapeCast _ a6 shapeCasts_S1x64_S64)) (constant S_ .f32 0x00000000#32) reducesTo_S64_S_d0 h_S_))) (constant S_ .f32 0x3E4CCCCD#32)

/-- The values weighted by the difference of the maps. -/
def attA (p : FVec Ideal S16x4x2x2048x2048 .f32) (la : FVec Ideal S_ .f32) (a2 : FVec Ideal S16x2048x512 .f32) : FVec Ideal S16x2048x4x128 .f32 :=
  transpose S16x2048x4x128 [0, 3, 1, 2] (Host.dotGeneral dot_S16x2048x4x128_S16x4x2048x2048_S16x4x128x2048_1_3_3_2_02_01 none (shapeCast _ a2 shapeCasts_S16x2048x512_S16x2048x4x128) (subf (shapeCast _ (extractStridedSlice S16x4x1x2048x2048 ![0, 0, 0, 0, 0] p slices_S16x4x2x2048x2048_S16x4x1x2048x2048_0_0_0_0_0) shapeCasts_S16x4x1x2048x2048_S16x4x2048x2048) (mulf (broadcastInDim S16x4x2048x2048 ![] bcast_S_S16x4x2048x2048 la) (shapeCast _ (extractStridedSlice S16x4x1x2048x2048 ![0, 0, 1, 0, 0] p slices_S16x4x2x2048x2048_S16x4x1x2048x2048_0_0_1_0_0) shapeCasts_S16x4x1x2048x2048_S16x4x2048x2048)))) transposes_S16x4x128x2048_S16x2048x4x128_0_3_1_2

/-- The norm, its gain and the constant factor. -/
def normA (t : FVec Ideal S16x2048x4x128 .f32) (a7 : FVec Ideal S1x128 .f32) : FVec Ideal S16x2048x512 .bf16 :=
  truncf .bf16 (shapeCast _ (mulf (mulf (mulf t (broadcastInDim S16x2048x4x128 ![0, 1, 2, 3] bcast_S16x2048x4x1_S16x2048x4x128_0_1_2_3 (Host.rsqrt (addf (Host.divf (broadcastInDim S16x2048x4x1 ![0, 1, 2] bcast_S16x2048x4_S16x2048x4x1_0_1_2 (Host.reduceAdd (mulf t t) (constant S_ .f32 0x00000000#32) reducesTo_S16x2048x4x128_S16x2048x4_d3 h_S_)) (broadcastInDim S16x2048x4x1 ![] bcast_S_S16x2048x4x1 (constant S_ .f32 0x43000000#32))) (broadcastInDim S16x2048x4x1 ![] bcast_S_S16x2048x4x1 (constant S_ .f32 0x358637BD#32)))))) (broadcastInDim S16x2048x4x128 ![0, 1, 2, 3] bcast_S1x1x1x128_S16x2048x4x128_0_1_2_3 (broadcastInDim S1x1x1x128 ![3] bcast_S128_S1x1x1x128_3 (shapeCast _ a7 shapeCasts_S1x128_S128)))) (broadcastInDim S16x2048x4x128 ![] bcast_S_S16x2048x4x128 (constant S_ .f32 0x3F4CCCCD#32))) shapeCasts_S16x2048x4x128_S16x2048x512) bitsLt_bf16_f32

variable (m : (ℓ : Loc nD τ sig) → Buf (Elt Ideal) ℓ) (c : Dev nD)

/-- The reference's result is these five, composed. -/
theorem res_stages : (res_out0 m c : FVec Ideal S16x2048x512 .bf16)
    = normA (attA (softA (scoreA (m (c.tc.loc main_arg0)) (m (c.tc.loc main_arg1))))
        (lamA (m (c.tc.loc main_arg3)) (m (c.tc.loc main_arg4)) (m (c.tc.loc main_arg5)) (m (c.tc.loc main_arg6)))
        (m (c.tc.loc main_arg2))) (m (c.tc.loc main_arg7)) := by
  unfold res_out0 res_main_v60 normA attA softA scoreA lamA expA sumA rowA maxA
  rfl

theorem negInf : Ideal.ofBits .f32 0xFF800000#32 = (⊥ : EReal) := by simp [Ideal.ofBits, Ideal.ieee]

theorem scoreA_apply (a0 a1 : FVec Ideal S16x2048x512 .f32) (b : Fin 16) (h : Fin 4) (e : Fin 2) (x j : Fin 2048) :
    scoreA a0 a1 (ix5 b h e x j)
      = Scalar.select (IntOp.cmpi .sle (BitVec.ofNat 32 j.1) (BitVec.ofNat 32 x.1))
          (∑ d : Fin 64, a0 (ix3 b x ⟨h.1 * 128 + e.1 * 64 + d.1, by omega⟩) * a1 (ix3 b j ⟨h.1 * 128 + e.1 * 64 + d.1, by omega⟩)) ⊥ := by
  unfold scoreA
  pointwise
  rw [show id (constant (F := Ideal) S_ .f32 0xFF800000#32) ix0 = (⊥ : EReal) from negInf]

/-- A maximum over the last of five axes, of any sizes. -/
theorem max_last {n0 n1 n2 n3 n4 : ℕ} {u : Shape} (z : FVec Ideal ⟨5, ![n0, n1, n2, n3, n4]⟩ .f32) (w : FVec Ideal u .f32)
    (hr : (⟨5, ![n0, n1, n2, n3, n4]⟩ : Shape).ReducesTo [4] ⟨4, ![n0, n1, n2, n3]⟩) (hu : 0 < u.numel)
    (b : Fin n0) (h : Fin n1) (e : Fin n2) (x : Fin n3) :
    Host.reduce FloatOps.maximumf z w hr hu (ix4 b h e x)
      = Finset.univ.fold max (w (Shape.Idx.first hu) : EReal) fun i => z (ix5 b h e x i) :=
  (Host.reduce_eq_fold (max : EReal → EReal → EReal) z w hr hu (ix4 b h e x)).trans (hr.fold_fiber_r5_a4 _ _ _ _)

theorem maxA_apply (s : FVec Ideal S16x4x2x2048x2048 .f32) (b : Fin 16) (h : Fin 4) (e : Fin 2) (x : Fin 2048) :
    maxA s (ix4 b h e x) = Finset.univ.fold max (⊥ : EReal) fun i => s (ix5 b h e x i) := by
  have e0 : ∀ r : FVec Ideal S16x4x2x2048 .f32, maximumf (broadcastInDim S16x4x2x2048 ![] bcast_S_S16x4x2x2048 (constant S_ .f32 0xFF800000#32)) r (ix4 b h e x)
      = max (Ideal.ofBits .f32 0xFF800000#32) (r (ix4 b h e x)) := fun _ => rfl
  have e1 : (constant (F := Ideal) S_ .f32 0xFF800000#32) (Shape.Idx.first h_S_) = (⊥ : EReal) := negInf
  unfold maxA
  rw [e0, max_last, e1, negInf, max_eq_right bot_le]

theorem rowA_apply (r : FVec Ideal S16x4x2x2048 .f32) (b : Fin 16) (h : Fin 4) (e : Fin 2) (x j : Fin 2048) :
    rowA r (ix5 b h e x j) = r (ix4 b h e x) := by
  unfold rowA
  pointwise

theorem sumA_apply (s : FVec Ideal S16x4x2x2048x2048 .f32) (b : Fin 16) (h : Fin 4) (e : Fin 2) (x : Fin 2048) :
    sumA s (ix4 b h e x) = ∑ j, s (ix5 b h e x j) := by
  unfold sumA
  pointwise

theorem expA_apply (s : FVec Ideal S16x4x2x2048x2048 .f32) (r : FVec Ideal S16x4x2x2048 .f32) (b : Fin 16) (h : Fin 4) (e : Fin 2) (x j : Fin 2048) :
    expA s r (ix5 b h e x j) = Ideal.exp (s (ix5 b h e x j) - r (ix4 b h e x)) := by
  rw [← rowA_apply r b h e x j]; rfl

theorem softA_apply (s : FVec Ideal S16x4x2x2048x2048 .f32) (b : Fin 16) (h : Fin 4) (e : Fin 2) (x j : Fin 2048) :
    softA s (ix5 b h e x j)
      = Ideal.div (Ideal.exp (s (ix5 b h e x j) - maxA s (ix4 b h e x)))
          (∑ k, Ideal.exp (s (ix5 b h e x k) - maxA s (ix4 b h e x))) := by
  have e1 : softA s (ix5 b h e x j) = Ideal.div (expA s (maxA s) (ix5 b h e x j)) (rowA (sumA (expA s (maxA s))) (ix5 b h e x j)) := rfl
  rw [e1, rowA_apply, sumA_apply, expA_apply]
  simp only [expA_apply]

theorem lamA_apply (a3 a4 a5 a6 : FVec Ideal S1x64 .f32) :
    lamA a3 a4 a5 a6 ix0 = Ideal.exp (∑ x : Fin 64, a3 (ix2 0 x) * a4 (ix2 0 x)) - Ideal.exp (∑ x : Fin 64, a5 (ix2 0 x) * a6 (ix2 0 x))
      + Ideal.ofBits .f32 0x3E4CCCCD#32 := by
  unfold lamA
  pointwise

theorem attA_apply (p : FVec Ideal S16x4x2x2048x2048 .f32) (la : FVec Ideal S_ .f32) (a2 : FVec Ideal S16x2048x512 .f32) (b : Fin 16) (x : Fin 2048) (h : Fin 4) (v : Fin 128) :
    attA p la a2 (ix4 b x h v)
      = ∑ j : Fin 2048, a2 (ix3 b j ⟨h.1 * 128 + v.1, by omega⟩) * (p (ix5 b h 0 x j) - la ix0 * p (ix5 b h 1 x j)) := by
  unfold attA
  pointwise

theorem normA_apply (t : FVec Ideal S16x2048x4x128 .f32) (a7 : FVec Ideal S1x128 .f32) (b : Fin 16) (x : Fin 2048) (u : Fin 512) :
    normA t a7 (ix3 b x u)
      = t (ix4 b x ⟨u.1 / 128, by omega⟩ ⟨u.1 % 128, by omega⟩)
        * Ideal.rsqrt (Ideal.div (∑ w : Fin 128, t (ix4 b x ⟨u.1 / 128, by omega⟩ w) * t (ix4 b x ⟨u.1 / 128, by omega⟩ w))
            (Ideal.ofBits .f32 0x43000000#32) + Ideal.ofBits .f32 0x358637BD#32)
        * a7 (ix2 0 ⟨u.1 % 128, by omega⟩) * Ideal.ofBits .f32 0x3F4CCCCD#32 := by
  unfold normA
  pointwise

end Cert.ReferenceIdeal.Hand

end
-- ==== Proof.Attention.lean ====
/- The kernel's attention and the reference's are the same real number, hence the same result: on finite queries, keys, values
   and lambda vectors the base-two exponentials of scaled scores are the exponentials, and the row maximum that the softmax
   takes off cancels in its quotient. -/
module

public import proofs.«01_k».proof.Proof.KernelArray
public import proofs.«01_k».proof.Proof.ReferenceRow

@[expose] public section

set_option maxRecDepth 16384

noncomputable section

namespace Cert.Attn

open Idealize.ShloMosaic Cert.KernelIdeal.Hand Cert.ReferenceIdeal.Hand

/-- The two maps' scores of a row against a key, of one head's 128 columns. -/
def dot0 (q k : Fin 2048 → Fin 128 → ℝ) (x j : Fin 2048) : ℝ := ∑ d : Fin 64, q x ⟨d.1, by omega⟩ * k j ⟨d.1, by omega⟩
def dot1 (q k : Fin 2048 → Fin 128 → ℝ) (x j : Fin 2048) : ℝ := ∑ d : Fin 64, q x ⟨64 + d.1, by omega⟩ * k j ⟨64 + d.1, by omega⟩

/-! ## The kernel's side -/

section Kernel
open Cert.KernelIdeal

variable (b0 : Vec Ideal S4x64 .f32) (b2 b3 b4 : Vec Ideal S1x2048x256 .bf16) (off : ℕ) (ho : off + 128 ≤ 256)
  (q k v : Fin 2048 → Fin 128 → ℝ) (l : ℝ)

theorem sc0_real (hq : ∀ x d, b2 (ix3 0 x ⟨off + d.1, by omega⟩) = (q x d : EReal)) (hk : ∀ x d, b3 (ix3 0 x ⟨off + d.1, by omega⟩) = (k x d : EReal))
    (x j : Fin 2048) : sc0 b2 b3 off ho x j = ((dot0 q k x j * (Real.log 2)⁻¹ : ℝ) : EReal) := by
  unfold sc0 dot0
  rw [Finset.sum_mul, coe_sum]
  have e := sum_first_half (fun d => ((q x d * (Real.log 2)⁻¹ * k j d : ℝ) : EReal)) (fun _ => 1)
  simp only [mul_one] at e
  refine Eq.trans (Finset.sum_congr rfl fun d _ => ?_) (e.trans (Finset.sum_congr rfl fun d _ => congrArg _ (by ring)))
  rw [select_slt (by omega) (by omega), hq, hk, named_log2e, ← EReal.coe_mul, ← EReal.coe_mul]

theorem sc1_real (hq : ∀ x d, b2 (ix3 0 x ⟨off + d.1, by omega⟩) = (q x d : EReal)) (hk : ∀ x d, b3 (ix3 0 x ⟨off + d.1, by omega⟩) = (k x d : EReal))
    (x j : Fin 2048) : sc1 b2 b3 off ho x j = ((dot1 q k x j * (Real.log 2)⁻¹ : ℝ) : EReal) := by
  unfold sc1 dot1
  rw [Finset.sum_mul, coe_sum]
  have e := sum_last_half (fun d => ((q x d * (Real.log 2)⁻¹ * k j d : ℝ) : EReal)) (fun _ => 1)
  simp only [mul_one] at e
  refine Eq.trans (Finset.sum_congr rfl fun d _ => ?_) (e.trans (Finset.sum_congr rfl fun d _ => congrArg _ (by ring)))
  rw [select_slt (by omega) (by omega), hq, hk, named_log2e, ← EReal.coe_mul, ← EReal.coe_mul]

/-- One map's average of a value column. -/
theorem average_real (sc V : Fin 2048 → EReal) (s w : Fin 2048 → ℝ) (hs : ∀ j, sc j = ((s j * (Real.log 2)⁻¹ : ℝ) : EReal))
    (hv : ∀ j, V j = (w j : EReal)) (x : Fin 2048) :
    Ideal.div (wsum sc V x) (wsum sc (fun _ => 1) x) = (((∑ j, wt s x j * w j) / ∑ j, wt s x j : ℝ) : EReal) := by
  rw [wsum_coe sc V s w hs hv, wsum_coe sc (fun _ => 1) s (fun _ => 1) hs fun _ => rfl]
  simp only [mul_one]
  exact div_coe_coe _ _ (total_pos s x).ne'

theorem attB_real (hq : ∀ x d, b2 (ix3 0 x ⟨off + d.1, by omega⟩) = (q x d : EReal)) (hk : ∀ x d, b3 (ix3 0 x ⟨off + d.1, by omega⟩) = (k x d : EReal))
    (hv : ∀ x d, b4 (ix3 0 x ⟨off + d.1, by omega⟩) = (v x d : EReal)) (hl : lam b0 = (l : EReal)) (x : Fin 2048) (d : Fin 128) :
    attB b0 b2 b3 b4 off ho x d = (att (dot0 q k x) (dot1 q k x) (fun j => v j d) l x : EReal) := by
  unfold attB att
  have hv' : ∀ j, val b4 off ho d j = (v j d : EReal) := fun j => hv j d
  rw [average_real _ _ _ _ (sc0_real b2 b3 off ho q k hq hk x) hv', average_real _ _ _ _ (sc1_real b2 b3 off ho q k hq hk x) hv', hl, ← EReal.coe_mul, ← EReal.coe_sub]

end Kernel

/-! ## The reference's side -/

section Reference
open Cert.ReferenceIdeal

variable (a0 a1 a2 : FVec Ideal S16x2048x512 .f32) (la : FVec Ideal S_ .f32) (b : Fin 16) (h : Fin 4)
  (q k v : Fin 2048 → Fin 128 → ℝ) (l : ℝ)

theorem score0_real (hq : ∀ x d, a0 (ix3 b x ⟨h.1 * 128 + d.1, by omega⟩) = (q x d : EReal)) (hk : ∀ x d, a1 (ix3 b x ⟨h.1 * 128 + d.1, by omega⟩) = (k x d : EReal))
    (x j : Fin 2048) : scoreA a0 a1 (ix5 b h 0 x j) = masked (dot0 q k x) x j := by
  rw [scoreA_apply, select_sle (by omega) (by omega)]
  unfold masked dot0
  refine if_congr Iff.rfl ?_ rfl
  rw [coe_sum]
  refine Finset.sum_congr rfl fun d _ => ?_
  rw [EReal.coe_mul, ← hq, ← hk]
  rfl

theorem score1_real (hq : ∀ x d, a0 (ix3 b x ⟨h.1 * 128 + d.1, by omega⟩) = (q x d : EReal)) (hk : ∀ x d, a1 (ix3 b x ⟨h.1 * 128 + d.1, by omega⟩) = (k x d : EReal))
    (x j : Fin 2048) : scoreA a0 a1 (ix5 b h 1 x j) = masked (dot1 q k x) x j := by
  rw [scoreA_apply, select_sle (by omega) (by omega)]
  unfold masked dot1
  refine if_congr Iff.rfl ?_ rfl
  rw [coe_sum]
  refine Finset.sum_congr rfl fun d _ => ?_
  rw [EReal.coe_mul, ← hq, ← hk]
  have e : (⟨h.1 * 128 + (1 : Fin 2).1 * 64 + d.1, by omega⟩ : Fin 512) = ⟨h.1 * 128 + (64 + d.1), by omega⟩ :=
    Fin.ext (by show h.1 * 128 + 1 * 64 + d.1 = h.1 * 128 + (64 + d.1); omega)
  rw [e]

/-- A map's weights. -/
theorem soft_real (s : FVec Ideal S16x4x2x2048x2048 .f32) (e : Fin 2) (x : Fin 2048) (t : Fin 2048 → ℝ) (hs : ∀ j, s (ix5 b h e x j) = masked t x j)
    (j : Fin 2048) : softA s (ix5 b h e x j) = ((wt t x j / ∑ i, wt t x i : ℝ) : EReal) := by
  rw [softA_apply, maxA_apply]
  simp only [hs]
  exact softmax_coe t x j _ rfl

theorem attA_real (hq : ∀ x d, a0 (ix3 b x ⟨h.1 * 128 + d.1, by omega⟩) = (q x d : EReal)) (hk : ∀ x d, a1 (ix3 b x ⟨h.1 * 128 + d.1, by omega⟩) = (k x d : EReal))
    (hv : ∀ x d, a2 (ix3 b x ⟨h.1 * 128 + d.1, by omega⟩) = (v x d : EReal)) (hl : la ix0 = (l : EReal)) (x : Fin 2048) (d : Fin 128) :
    attA (softA (scoreA a0 a1)) la a2 (ix4 b x h d) = (att (dot0 q k x) (dot1 q k x) (fun j => v j d) l x : EReal) := by
  rw [attA_apply, ← att_eq, coe_sum]
  refine Finset.sum_congr rfl fun j _ => ?_
  rw [soft_real b h _ 0 x _ (score0_real a0 a1 b h q k hq hk x), soft_real b h _ 1 x _ (score1_real a0 a1 b h q k hq hk x), hv, hl,
    ← EReal.coe_mul, ← EReal.coe_sub, ← EReal.coe_mul]

end Reference

/-! ## The two results -/

section Both
open Cert.KernelIdeal

/-- The factor of the second map is a real number where the lambda vectors are. -/
theorem lam_real (a b c d : Fin 64 → EReal) (a' b' c' d' : Fin 64 → ℝ) (ha : ∀ i, a i = (a' i : EReal)) (hb : ∀ i, b i = (b' i : EReal))
    (hc : ∀ i, c i = (c' i : EReal)) (hd : ∀ i, d i = (d' i : EReal)) :
    ∃ l : ℝ, Ideal.exp (∑ x, a x * b x) - Ideal.exp (∑ x, c x * d x) + Ideal.ofBits .f32 0x3E4CCCCD#32 = (l : EReal) := by
  have e1 : ∑ x, a x * b x = ((∑ x, a' x * b' x : ℝ) : EReal) := by
    rw [coe_sum]; exact Finset.sum_congr rfl fun x _ => by rw [ha, hb, EReal.coe_mul]
  have e2 : ∑ x, c x * d x = ((∑ x, c' x * d' x : ℝ) : EReal) := by
    rw [coe_sum]; exact Finset.sum_congr rfl fun x _ => by rw [hc, hd, EReal.coe_mul]
  have e3 : ∃ r : ℝ, Ideal.ofBits .f32 0x3E4CCCCD#32 = (r : EReal) := ⟨_, by simp [Ideal.ofBits, Ideal.ieee]; rfl⟩
  obtain ⟨r, hr⟩ := e3
  refine ⟨Real.exp (∑ x, a' x * b' x) - Real.exp (∑ x, c' x * d' x) + r, ?_⟩
  rw [e1, e2, hr, EReal.coe_add, EReal.coe_sub]
  rfl

variable (m : (ℓ : Loc nD τ sig) → Buf (Elt Ideal) ℓ) (c : Dev nD)

/-- The kernel's result and the reference's formula of the same arguments, at every index. -/
theorem res_eq (q k v : S16x2048x512.Idx → ℝ) (hq : ∀ j, argQ m c j = (q j : EReal)) (hk : ∀ j, argK m c j = (k j : EReal)) (hv : ∀ j, argV m c j = (v j : EReal))
    (l0 l1 l2 l3 : S1x64.Idx → ℝ) (h0 : ∀ j, argL0 m c j = (l0 j : EReal)) (h1 : ∀ j, argL1 m c j = (l1 j : EReal)) (h2 : ∀ j, argL2 m c j = (l2 j : EReal))
    (h3 : ∀ j, argL3 m c j = (l3 j : EReal)) :
    resG m c = normA (attA (softA (scoreA (argQ m c) (argK m c))) (lamA (argL0 m c) (argL1 m c) (argL2 m c) (argL3 m c)) (argV m c)) (argG m c) := by
  obtain ⟨l, hl⟩ := lam_real (fun i => argL0 m c (ix2 0 i)) (fun i => argL1 m c (ix2 0 i)) (fun i => argL2 m c (ix2 0 i)) (fun i => argL3 m c (ix2 0 i))
    _ _ _ _ (fun i => h0 _) (fun i => h1 _) (fun i => h2 _) (fun i => h3 _)
  funext j
  obtain ⟨b, x, u, rfl⟩ : ∃ (b : Fin 16) (x : Fin 2048) (u : Fin 512), j = ix3 b x u := ⟨j 0, j 1, j 2, by idx_vars j⟩
  have hu : u.1 / 256 * 256 + u.1 % 256 / 128 * 128 = u.1 / 128 * 128 := by omega
  rw [normA_apply]
  have hR : ∀ d : Fin 128, _ := attA_real (argQ m c) (argK m c) (argV m c) (lamA (argL0 m c) (argL1 m c) (argL2 m c) (argL3 m c)) b ⟨u.1 / 128, by omega⟩
    (fun x d => q (ix3 b x ⟨u.1 / 128 * 128 + d.1, by omega⟩)) (fun x d => k (ix3 b x ⟨u.1 / 128 * 128 + d.1, by omega⟩))
    (fun x d => v (ix3 b x ⟨u.1 / 128 * 128 + d.1, by omega⟩)) l (fun x d => hq _) (fun x d => hk _) (fun x d => hv _) ((lamA_apply _ _ _ _).trans hl) x
  have hK : ∀ d : Fin 128, _ := attB_real (inL m c) (blkOf (inQK m c) b (u.1 / 256) (by omega)) (blkOf (inQK m c) b (2 + u.1 / 256) (by omega)) (blkOf (inV m c) b (u.1 / 256) (by omega))
    (u.1 % 256 / 128 * 128) (by omega)
    (fun x d => q (ix3 b x ⟨u.1 / 128 * 128 + d.1, by omega⟩)) (fun x d => k (ix3 b x ⟨u.1 / 128 * 128 + d.1, by omega⟩))
    (fun x d => v (ix3 b x ⟨u.1 / 128 * 128 + d.1, by omega⟩)) l ?_ ?_ ?_ ((lam_inL m c).trans hl) x
  · have e : resG m c (ix3 b x u) = outB (inL m c) (inG m c) (blkOf (inQK m c) b (u.1 / 256) (by omega)) (blkOf (inQK m c) b (2 + u.1 / 256) (by omega)) (blkOf (inV m c) b (u.1 / 256) (by omega))
        (u.1 % 256 / 128 * 128) (by omega) x ⟨u.1 % 128, by omega⟩ := by
      have e' : (⟨u.1 % 256 % 128, by omega⟩ : Fin 128) = ⟨u.1 % 128, by omega⟩ := Fin.ext (by show u.1 % 256 % 128 = u.1 % 128; omega)
      rw [← e']
      rfl
    rw [e]
    unfold outB
    simp only [hK, hR, inG_apply]
  · intro x d
    rw [← hq, ← inQK_q]
    exact congrArg (fun w => inQK m c (ix3 b x w)) (Fin.ext (by show u.1 / 256 * 256 + (u.1 % 256 / 128 * 128 + d.1) = u.1 / 128 * 128 + d.1; omega))
  · intro x d
    rw [← hk, ← inQK_k]
    exact congrArg (fun w => inQK m c (ix3 b x w)) (Fin.ext (by show (2 + u.1 / 256) * 256 + (u.1 % 256 / 128 * 128 + d.1) = 512 + (u.1 / 128 * 128 + d.1); omega))
  · intro x d
    rw [← hv, ← inV_apply]
    exact congrArg (fun w => inV m c (ix3 b x w)) (Fin.ext (by show u.1 / 256 * 256 + (u.1 % 256 / 128 * 128 + d.1) = u.1 / 128 * 128 + d.1; omega))

end Both

end Cert.Attn

end
-- ==== Proof.Finite.lean ====
/- What the precondition says of an argument: each of its entries is a real number. -/
module

public import proofs.«01_k».proof.Pre_finite
public import Idealize.ShloMosaic.Lib.Pointwise

@[expose] public section

noncomputable section

namespace Cert.Attn

open Idealize.ShloMosaic

theorem posInf : Ideal.ofBits .f32 0x7F800000#32 = (⊤ : EReal) := by simp [Ideal.ofBits, Ideal.ieee]

theorem of_cmp {x : EReal} (h : FloatOps.cmpf (F := Ideal) (φ := .f32) .olt (FloatOps.hostAbsf (F := Ideal) (φ := .f32) x) (⊤ : EReal) = 1#1) : max x (-x) < ⊤ := by
  by_contra hn
  have e : FloatOps.cmpf (F := Ideal) (φ := .f32) .olt (FloatOps.hostAbsf (F := Ideal) (φ := .f32) x) (⊤ : EReal) = BitVec.ofBool (decide (max x (-x) < ⊤)) := rfl
  rw [e, decide_eq_false hn] at h
  exact absurd h (by decide)

/-- An extended real whose absolute value is less than +∞ is a real number. -/
theorem real_of_lt {x : EReal} (h : FloatOps.cmpf (F := Ideal) (φ := .f32) .olt (FloatOps.hostAbsf (F := Ideal) (φ := .f32) x) (Ideal.ofBits .f32 0x7F800000#32) = 1#1) :
    ∃ r : ℝ, x = (r : EReal) := by
  rw [posInf] at h
  induction x with
  | bot => exact absurd (of_cmp h) (by simp)
  | top => exact absurd (of_cmp h) (by simp)
  | coe r => exact ⟨r, rfl⟩

theorem and_one {a b : BitVec 1} (h : a &&& b = 1#1) : a = 1#1 ∧ b = 1#1 := by
  revert h; revert a b; decide

theorem facts : Cert.Pre_finite.Facts := ⟨by decide, by decide⟩

open Cert.Pre_finite in
/-- The queries, keys, values and lambda vectors are real. -/
theorem reals (a0 a1 a2 : FVec Ideal S16x2048x512 .f32) (a3 a4 a5 a6 : FVec Ideal S1x64 .f32) (a7 : FVec Ideal S1x128 .f32)
    (h : (@Cert.Pre_finite.fn facts Ideal _ a0 a1 a2 a3 a4 a5 a6 a7).1 = (fun _ => 1#1) ∧ (@Cert.Pre_finite.fn facts Ideal _ a0 a1 a2 a3 a4 a5 a6 a7).2 = (fun _ => 1#1)) :
    ((∀ j, ∃ r : ℝ, a0 j = (r : EReal)) ∧ (∀ j, ∃ r : ℝ, a1 j = (r : EReal)) ∧ (∀ j, ∃ r : ℝ, a2 j = (r : EReal)))
    ∧ (∀ j, ∃ r : ℝ, a3 j = (r : EReal)) ∧ (∀ j, ∃ r : ℝ, a4 j = (r : EReal)) ∧ (∀ j, ∃ r : ℝ, a5 j = (r : EReal)) ∧ ∀ j, ∃ r : ℝ, a6 j = (r : EReal) := by
  have H1 := fun j => and_one (congrFun h.1 j)
  have H2 := fun j => and_one (congrFun h.2 j)
  exact ⟨⟨fun j => real_of_lt (and_one (H1 j).1).1, fun j => real_of_lt (and_one (H1 j).1).2, fun j => real_of_lt (H1 j).2⟩,
    fun j => real_of_lt (and_one (and_one (H2 j).1).1).1, fun j => real_of_lt (and_one (and_one (H2 j).1).1).2, fun j => real_of_lt (and_one (H2 j).1).2,
    fun j => real_of_lt (H2 j).2⟩

end Cert.Attn

end
-- ==== Proof.ProjectionBlock.lean ====
/- The input projection at one grid point: each of the four blocks that it leaves, as a function of the input blocks. The
   projection is stored in ten column tiles and read back from there; queries and keys are normed, rotated and stored in eight
   tiles, the rest is stored as it comes. -/
module

public import proofs.«01_k».proof.Proof.Math
public import proofs.«01_k».proof.Proof.Gen.Kernel2Ideal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel2Ideal.Hand

open Idealize.ShloMosaic Idealize.ShloMosaic.TcCoe Cert.Kernel2Ideal Cert.Kernel2Ideal.Gen

/-- The projection of the normed rows of a block: row `r` against column `k` of the weights. -/
def proj (xn : FVec Ideal S512x1024 .bf16) (x2 : Vec Ideal S1024x2560 .bf16) : Vec Ideal S512x2560 .f32 := fun y =>
  (∑ k : Fin 1024, xn (ix2 (y 0) k) * x2 (ix2 k (y 1)) : EReal)

theorem proj_at (xn : FVec Ideal S512x1024 .bf16) (x2 : Vec Ideal S1024x2560 .bf16) (y : S512x2560.Idx) (r : Fin 512) (n : Fin 2560)
    (h0 : (y 0).1 = r.1) (h1 : (y 1).1 = n.1) : proj xn x2 y = (∑ k : Fin 1024, xn (ix2 r k) * x2 (ix2 k n) : EReal) := by
  have e0 : y 0 = r := Fin.ext h0
  have e1 : y 1 = n := Fin.ext h1
  unfold proj
  rw [e0, e1]

/-- The ten column blocks stored in turn make up the projection. -/
theorem canon_proj (xn : FVec Ideal S512x1024 .bf16) (x2 : Vec Ideal S1024x2560 .bf16) :
    View.canon (s := S512x2560) (e := .f32) (Val := Elt Ideal)
      [⟨Rect.unit ![0, 1280] ![512, 256] (by decide), k0_pay25 (F := Ideal) xn (View.ld x2 (Rect.unit ![0, 1280] ![1024, 256] (by decide)) : FVec Ideal S1024x256 .bf16)⟩,
      ⟨Rect.unit ![0, 1024] ![512, 256] (by decide), k0_pay24 (F := Ideal) xn (View.ld x2 (Rect.unit ![0, 1024] ![1024, 256] (by decide)) : FVec Ideal S1024x256 .bf16)⟩,
      ⟨Rect.unit ![0, 2304] ![512, 256] (by decide), k0_pay23 (F := Ideal) xn (View.ld x2 (Rect.unit ![0, 2304] ![1024, 256] (by decide)) : FVec Ideal S1024x256 .bf16)⟩,
      ⟨Rect.unit ![0, 2048] ![512, 256] (by decide), k0_pay22 (F := Ideal) xn (View.ld x2 (Rect.unit ![0, 2048] ![1024, 256] (by decide)) : FVec Ideal S1024x256 .bf16)⟩,
      ⟨Rect.unit ![0, 1792] ![512, 256] (by decide), k0_pay21 (F := Ideal) xn (View.ld x2 (Rect.unit ![0, 1792] ![1024, 256] (by decide)) : FVec Ideal S1024x256 .bf16)⟩,
      ⟨Rect.unit ![0, 1536] ![512, 256] (by decide), k0_pay20 (F := Ideal) xn (View.ld x2 (Rect.unit ![0, 1536] ![1024, 256] (by decide)) : FVec Ideal S1024x256 .bf16)⟩,
      ⟨Rect.unit ![0, 768] ![512, 256] (by decide), k0_pay14 (F := Ideal) xn (View.ld x2 (Rect.unit ![0, 768] ![1024, 256] (by decide)) : FVec Ideal S1024x256 .bf16)⟩,
      ⟨Rect.unit ![0, 512] ![512, 256] (by decide), k0_pay13 (F := Ideal) xn (View.ld x2 (Rect.unit ![0, 512] ![1024, 256] (by decide)) : FVec Ideal S1024x256 .bf16)⟩,
      ⟨Rect.unit ![0, 256] ![512, 256] (by decide), k0_pay12 (F := Ideal) xn (View.ld x2 (Rect.unit ![0, 256] ![1024, 256] (by decide)) : FVec Ideal S1024x256 .bf16)⟩,
      ⟨Rect.unit ![0, 0] ![512, 256] (by decide), k0_pay11 (F := Ideal) xn (View.ld x2 (Rect.unit ![0, 0] ![1024, 256] (by decide)) : FVec Ideal S1024x256 .bf16)⟩] = proj xn x2 := by
  funext j
  canon_tiles x h
  all_goals
    unfold_payloads
    idx_vars x
    pointwise
    refine Eq.symm (proj_at _ _ _ _ _ ?_ ?_) <;> first | omega | (show _ = _ ; omega)

/-- The first four make up its first 1024 columns. -/
theorem canon_proj4 (xn : FVec Ideal S512x1024 .bf16) (x2 : Vec Ideal S1024x2560 .bf16) (j : S512x2560.Idx) (hj : (j 1).1 < 1024) :
    View.canon (s := S512x2560) (e := .f32) (Val := Elt Ideal)
      [⟨Rect.unit ![0, 768] ![512, 256] (by decide), k0_pay14 (F := Ideal) xn (View.ld x2 (Rect.unit ![0, 768] ![1024, 256] (by decide)) : FVec Ideal S1024x256 .bf16)⟩,
      ⟨Rect.unit ![0, 512] ![512, 256] (by decide), k0_pay13 (F := Ideal) xn (View.ld x2 (Rect.unit ![0, 512] ![1024, 256] (by decide)) : FVec Ideal S1024x256 .bf16)⟩,
      ⟨Rect.unit ![0, 256] ![512, 256] (by decide), k0_pay12 (F := Ideal) xn (View.ld x2 (Rect.unit ![0, 256] ![1024, 256] (by decide)) : FVec Ideal S1024x256 .bf16)⟩,
      ⟨Rect.unit ![0, 0] ![512, 256] (by decide), k0_pay11 (F := Ideal) xn (View.ld x2 (Rect.unit ![0, 0] ![1024, 256] (by decide)) : FVec Ideal S1024x256 .bf16)⟩] j = proj xn x2 j := by
  rw [← canon_proj]
  symm
  iterate 6 refine (View.canon_cons_of_not_mem (Val := Elt Ideal) _ _ ?_).trans ?_; rotate_left
  · rfl
  all_goals
    exact Rect.not_mem_set_of_axis _ j 1 _ _ rfl rfl rfl (Or.inl (lt_of_lt_of_le hj (Nat.le_of_ble_eq_true rfl)))

/-- What the first four leave. -/
def proj4 (xn : FVec Ideal S512x1024 .bf16) (x2 : Vec Ideal S1024x2560 .bf16) : Vec Ideal S512x2560 .f32 :=
    View.canon (s := S512x2560) (e := .f32) (Val := Elt Ideal)
      [⟨Rect.unit ![0, 768] ![512, 256] (by decide), k0_pay14 (F := Ideal) xn (View.ld x2 (Rect.unit ![0, 768] ![1024, 256] (by decide)) : FVec Ideal S1024x256 .bf16)⟩,
      ⟨Rect.unit ![0, 512] ![512, 256] (by decide), k0_pay13 (F := Ideal) xn (View.ld x2 (Rect.unit ![0, 512] ![1024, 256] (by decide)) : FVec Ideal S1024x256 .bf16)⟩,
      ⟨Rect.unit ![0, 256] ![512, 256] (by decide), k0_pay12 (F := Ideal) xn (View.ld x2 (Rect.unit ![0, 256] ![1024, 256] (by decide)) : FVec Ideal S1024x256 .bf16)⟩,
      ⟨Rect.unit ![0, 0] ![512, 256] (by decide), k0_pay11 (F := Ideal) xn (View.ld x2 (Rect.unit ![0, 0] ![1024, 256] (by decide)) : FVec Ideal S1024x256 .bf16)⟩]

theorem canon_four (xn : FVec Ideal S512x1024 .bf16) (x2 : Vec Ideal S1024x2560 .bf16) :
    View.canon (s := S512x2560) (e := .f32) (Val := Elt Ideal)
      [⟨Rect.unit ![0, 768] ![512, 256] (by decide), k0_pay14 (F := Ideal) xn (View.ld x2 (Rect.unit ![0, 768] ![1024, 256] (by decide)) : FVec Ideal S1024x256 .bf16)⟩,
      ⟨Rect.unit ![0, 512] ![512, 256] (by decide), k0_pay13 (F := Ideal) xn (View.ld x2 (Rect.unit ![0, 512] ![1024, 256] (by decide)) : FVec Ideal S1024x256 .bf16)⟩,
      ⟨Rect.unit ![0, 256] ![512, 256] (by decide), k0_pay12 (F := Ideal) xn (View.ld x2 (Rect.unit ![0, 256] ![1024, 256] (by decide)) : FVec Ideal S1024x256 .bf16)⟩,
      ⟨Rect.unit ![0, 0] ![512, 256] (by decide), k0_pay11 (F := Ideal) xn (View.ld x2 (Rect.unit ![0, 0] ![1024, 256] (by decide)) : FVec Ideal S1024x256 .bf16)⟩] = proj4 xn x2 := rfl

/-- The sums of squares, against the block of ones. -/
def sums (p : Vec Ideal S512x2560 .f32) (x7 : Vec Ideal S256x256 .bf16) : Vec Ideal S512x1024 .f32 := fun y =>
  (∑ k : Fin 256, p (ix2 (y 0) ⟨(y 1).1 / 256 * 256 + k.1, by have := (y 1).2; have : S512x1024.size 1 = 1024 := rfl; omega⟩) * p (ix2 (y 0) ⟨(y 1).1 / 256 * 256 + k.1, by have := (y 1).2; have : S512x1024.size 1 = 1024 := rfl; omega⟩) * x7 (ix2 k ⟨(y 1).1 % 256, by omega⟩) : EReal)

theorem sums_at (p : Vec Ideal S512x2560 .f32) (x7 : Vec Ideal S256x256 .bf16) (y : S512x1024.Idx) (off : ℕ) (ho : off + 256 ≤ 1024) (hd : off % 256 = 0) (r : Fin 512) (n : Fin 256)
    (h0 : (y 0).1 = r.1) (h1 : (y 1).1 = off + n.1) : sums p x7 y = (∑ k : Fin 256, p (ix2 r ⟨off + k.1, by omega⟩) * p (ix2 r ⟨off + k.1, by omega⟩) * x7 (ix2 k n) : EReal) := by
  have e0 : y 0 = r := Fin.ext h0
  have e : (y 1).1 / 256 * 256 = off := by omega
  have e2 : (⟨(y 1).1 % 256, by omega⟩ : Fin 256) = n := Fin.ext (by show (y 1).1 % 256 = n.1; omega)
  unfold sums
  rw [e0, e2]
  simp only [e]

/-- The four blocks of sums. -/
theorem canon_sums (p : Vec Ideal S512x2560 .f32) (x7 : Vec Ideal S256x256 .bf16) :
    View.canon (s := S512x1024) (e := .f32) (Val := Elt Ideal)
      [⟨Rect.unit ![0, 768] ![512, 256] (by decide), k0_pay19 (F := Ideal) (fun j : (Rect.unit (s := S512x2560) ![0, 768] ![512, 256] (by decide)).shape.Idx => p ((Rect.unit (s := S512x2560) ![0, 768] ![512, 256] (by decide)).idx j)) x7⟩,
      ⟨Rect.unit ![0, 512] ![512, 256] (by decide), k0_pay18 (F := Ideal) (fun j : (Rect.unit (s := S512x2560) ![0, 512] ![512, 256] (by decide)).shape.Idx => p ((Rect.unit (s := S512x2560) ![0, 512] ![512, 256] (by decide)).idx j)) x7⟩,
      ⟨Rect.unit ![0, 256] ![512, 256] (by decide), k0_pay17 (F := Ideal) (fun j : (Rect.unit (s := S512x2560) ![0, 256] ![512, 256] (by decide)).shape.Idx => p ((Rect.unit (s := S512x2560) ![0, 256] ![512, 256] (by decide)).idx j)) x7⟩,
      ⟨Rect.unit ![0, 0] ![512, 256] (by decide), k0_pay16 (F := Ideal) (k0_pay15 (F := Ideal) (fun j : (Rect.unit (s := S512x2560) ![0, 0] ![512, 256] (by decide)).shape.Idx => p ((Rect.unit (s := S512x2560) ![0, 0] ![512, 256] (by decide)).idx j))) x7⟩] = sums p x7 := by
  funext j
  canon_tiles x h
  all_goals
    unfold_payloads
    idx_vars x
    pointwise
  · exact (sums_at p x7 _ 768 (by decide) (by decide) _ _ h0 h1).symm
  · exact (sums_at p x7 _ 512 (by decide) (by decide) _ _ h0 h1).symm
  · exact (sums_at p x7 _ 256 (by decide) (by decide) _ _ h0 h1).symm
  · exact (sums_at p x7 _ 0 (by decide) (by decide) _ _ h0 (by omega)).symm

/-- The sums read only the first 1024 columns. -/
theorem sums_proj4 (xn : FVec Ideal S512x1024 .bf16) (x2 : Vec Ideal S1024x2560 .bf16) (x7 : Vec Ideal S256x256 .bf16) :
    sums (proj4 xn x2) x7 = sums (proj xn x2) x7 := by
  funext y
  unfold sums
  refine Finset.sum_congr rfl fun k _ => ?_
  have e : ∀ (n : Fin 2560), n.1 < 1024 → proj4 xn x2 (ix2 (y 0) n) = proj xn x2 (ix2 (y 0) n) := fun n hn => canon_proj4 xn x2 (ix2 (y 0) n) hn
  have hy : (y 1).1 < 1024 := (y 1).2
  rw [e _ (by show _ < 1024; dsimp only; omega)]

/-- The projection of a block, from its rows, the norm's gain and the weights. -/
def projB (x0 : Vec Ideal S512x1024 .f32) (x1 : Vec Ideal S1x1024 .f32) (x2 : Vec Ideal S1024x2560 .bf16) : Vec Ideal S512x2560 .f32 :=
  proj (k0_pay2 (F := Ideal) x0 x1) x2

theorem projB_fold (x0 : Vec Ideal S512x1024 .f32) (x1 : Vec Ideal S1x1024 .f32) (x2 : Vec Ideal S1024x2560 .bf16) :
    proj (k0_pay2 (F := Ideal) x0 x1) x2 = projB x0 x1 x2 := rfl

/-- GELU as the kernel spells it, its constant named. -/
def gelu (x : EReal) : EReal :=
  Ideal.ofBits .f32 0x3F000000#32 * x * (1 + FloatOps.erf (F := Ideal) (φ := .f32) (x * (Named.named (F := Ideal) (φ := .f32) κ "rsqrt2" 0x3F3504F3#32 : EReal) : EReal) : EReal)

/-- The stacked cosines, sines, ones and zeros of row `r`. -/
def cs (x4 : Vec Ideal S1x1x512 .f32) (x5 : Vec Ideal S8x1 .f32) (r : Fin 512) (k : Fin 32) : EReal :=
  if h : k.1 < 8 then Ideal.cos (x5 (ix2 ⟨k.1, h⟩ 0) * x4 (ix3 0 0 r))
  else if h : k.1 - 8 < 8 then Ideal.sin (x5 (ix2 ⟨k.1 - 8, h⟩ 0) * x4 (ix3 0 0 r))
  else if k.1 - 8 - 8 < 8 then 1 else 0

/-- The expanded table of row `r` at lane `n`. -/
def tab (x4 : Vec Ideal S1x1x512 .f32) (x5 : Vec Ideal S8x1 .f32) (x6 : Vec Ideal S32x384 .bf16) (r : Fin 512) (n : Fin 384) : EReal :=
  (∑ k : Fin 32, cs x4 x5 r k * x6 (ix2 k n) : EReal) + ∑ k : Fin 32, (cs x4 x5 r k - cs x4 x5 r k) * x6 (ix2 k n)

/-- A normed entry of the projection's first 1024 columns. -/
def pnB (p : Vec Ideal S512x2560 .f32) (x3 : Vec Ideal S1x1024 .f32) (x7 : Vec Ideal S256x256 .bf16) (r : Fin 512) (n : Fin 1024) : EReal :=
  p (ix2 r ⟨n.1, by omega⟩) * Ideal.rsqrt (sums p x7 (ix2 r n) * Ideal.ofBits .f32 0x3C800000#32 + Ideal.ofBits .f32 0x358637BD#32) * x3 (ix2 0 n)

/-- The rotated entry of row `r`, lane `l` of the tile whose columns start at `off`. -/
def rotB (p : Vec Ideal S512x2560 .f32) (x3 : Vec Ideal S1x1024 .f32) (x4 : Vec Ideal S1x1x512 .f32) (x5 : Vec Ideal S8x1 .f32) (x6 : Vec Ideal S32x384 .bf16) (x7 : Vec Ideal S256x256 .bf16)
    (off : ℕ) (ho : off + 128 ≤ 1024) (r : Fin 512) (l : Fin 128) : EReal :=
  pnB p x3 x7 r ⟨off + l.1, by omega⟩ * tab x4 x5 x6 r ⟨l.1, by omega⟩
    + pnB p x3 x7 r ⟨off + (l.1 + 128 - 120) % 128, by omega⟩ * tab x4 x5 x6 r ⟨128 + l.1, by omega⟩
    + pnB p x3 x7 r ⟨off + (l.1 + 128 - 8) % 128, by omega⟩ * tab x4 x5 x6 r ⟨256 + l.1, by omega⟩

/-- The block of queries and keys. -/
def blkQK (p : Vec Ideal S512x2560 .f32) (x3 : Vec Ideal S1x1024 .f32) (x4 : Vec Ideal S1x1x512 .f32) (x5 : Vec Ideal S8x1 .f32) (x6 : Vec Ideal S32x384 .bf16) (x7 : Vec Ideal S256x256 .bf16) : Vec Ideal S512x1024 .bf16 := fun y =>
  rotB p x3 x4 x5 x6 x7 ((y 1).1 / 128 * 128) (by have := (y 1).2; have : S512x1024.size 1 = 1024 := rfl; omega) (y 0) ⟨(y 1).1 % 128, by omega⟩

theorem blkQK_at (p : Vec Ideal S512x2560 .f32) (x3 : Vec Ideal S1x1024 .f32) (x4 : Vec Ideal S1x1x512 .f32) (x5 : Vec Ideal S8x1 .f32) (x6 : Vec Ideal S32x384 .bf16) (x7 : Vec Ideal S256x256 .bf16)
    (y : S512x1024.Idx) (off : ℕ) (ho : off + 128 ≤ 1024) (hd : off % 128 = 0) (r : Fin 512) (l : Fin 128) (h0 : (y 0).1 = r.1) (h1 : (y 1).1 = off + l.1) :
    blkQK p x3 x4 x5 x6 x7 y = rotB p x3 x4 x5 x6 x7 off ho r l := by
  have e0 : y 0 = r := Fin.ext h0
  have e : (y 1).1 / 128 * 128 = off := by omega
  have e2 : (⟨(y 1).1 % 128, by omega⟩ : Fin 128) = l := Fin.ext (by show (y 1).1 % 128 = l.1; omega)
  unfold blkQK
  rw [e0, e2]
  congr 1

/-- The block of values. -/
def blkV (p : Vec Ideal S512x2560 .f32) : Vec Ideal S512x512 .bf16 := fun y =>
  p (ix2 (y 0) ⟨1024 + (y 1).1, by have := (y 1).2; have : S512x512.size 1 = 512 := rfl; omega⟩)

/-- The block of gates. -/
def blkU (p : Vec Ideal S512x2560 .f32) : Vec Ideal S512x512 .bf16 := fun y =>
  gelu (p (ix2 (y 0) ⟨1536 + (y 1).1, by have := (y 1).2; have : S512x512.size 1 = 512 := rfl; omega⟩))

theorem blkV_at (p : Vec Ideal S512x2560 .f32) (y : S512x512.Idx) (r : Fin 512) (n : Fin 2560) (h0 : (y 0).1 = r.1) (h1 : 1024 + (y 1).1 = n.1) :
    blkV p y = p (ix2 r n) := by
  have e0 : y 0 = r := Fin.ext h0
  unfold blkV
  rw [e0]
  exact congrArg (fun n => p (ix2 r n)) (Fin.ext h1)

theorem blkU_at (p : Vec Ideal S512x2560 .f32) (y : S512x512.Idx) (r : Fin 512) (n : Fin 2560) (h0 : (y 0).1 = r.1) (h1 : 1536 + (y 1).1 = n.1) :
    blkU p y = gelu (p (ix2 r n)) := by
  have e0 : y 0 = r := Fin.ext h0
  unfold blkU
  rw [e0]
  exact congrArg (fun n => gelu (p (ix2 r n))) (Fin.ext h1)

/-- The gelu'd columns the layer norm of the gate reads. -/
def gate (p : Vec Ideal S512x2560 .f32) : Vec Ideal S512x512 .f32 := fun y =>
  gelu (p (ix2 (y 0) ⟨2048 + (y 1).1, by have := (y 1).2; have : S512x512.size 1 = 512 := rfl; omega⟩))

theorem gate_at (p : Vec Ideal S512x2560 .f32) (r n : Fin 512) : gate p (ix2 r n) = gelu (p (ix2 r ⟨2048 + n.1, by omega⟩)) := rfl

theorem gate_fold (p : Vec Ideal S512x2560 .f32) :
    k0_pay48 (F := Ideal) (fun j : (Rect.unit (s := S512x2560) ![0, 2048] ![512, 256] (by decide)).shape.Idx => p ((Rect.unit (s := S512x2560) ![0, 2048] ![512, 256] (by decide)).idx j))
      (fun j : (Rect.unit (s := S512x2560) ![0, 2304] ![512, 256] (by decide)).shape.Idx => p ((Rect.unit (s := S512x2560) ![0, 2304] ![512, 256] (by decide)).idx j)) = gate p := by
  funext y
  unfold_payloads
  idx_vars y
  rw [gate_at]
  pointwise
  unfold gelu
  split
  · rfl
  · next h =>
    have e : (⟨2304 + (y1.1 - 256), by omega⟩ : Fin 2560) = ⟨2048 + y1.1, by omega⟩ := Fin.ext (by show 2304 + (y1.1 - 256) = 2048 + y1.1; omega)
    rw [e]

/-- The mean of a row of 512. -/
def mean (f : Fin 512 → EReal) : EReal := Ideal.div (∑ x, f x) (Ideal.ofBits .f32 0x44000000#32)

/-- Layer norm of a row, as the kernel spells it. -/
def lnorm (f : Fin 512 → EReal) (g b : EReal) (n : Fin 512) : EReal :=
  (f n - mean f) * Ideal.rsqrt (mean (fun x => (f x - mean f) * (f x - mean f)) + Ideal.ofBits .f32 0x358637BD#32) * g + b

/-- The block of normed gates. -/
def blkN (p : Vec Ideal S512x2560 .f32) (x8 x9 : Vec Ideal S1x512 .f32) : Vec Ideal S512x512 .bf16 := fun y =>
  lnorm (fun n => gelu (p (ix2 (y 0) ⟨2048 + n.1, by omega⟩))) (x8 (ix2 0 (y 1))) (x9 (ix2 0 (y 1))) (y 1)

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2560 .bf16) (harg3 : arg3.IsWhole) (arg4 : Memref sig .tc .vmem S1x1024 .f32) (harg4 : arg4.IsWhole) (arg5 : Memref sig .tc .vmem S1x1x512 .f32) (harg5 : arg5.IsWhole) (arg6 : Memref sig .tc .vmem S8x1 .f32) (harg6 : arg6.IsWhole) (arg7 : Memref sig .tc .vmem S32x384 .bf16) (harg7 : arg7.IsWhole) (arg8 : Memref sig .tc .vmem S256x256 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S512x1024 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x2560 .f32) (harg15 : arg15.IsWhole) (arg16 : Memref sig .tc .vmem S512x1024 .f32) (harg16 : arg16.IsWhole)
    (x0 : Vec Ideal S512x1024 .f32) (x1 : Vec Ideal S1x1024 .f32) (x2 : Vec Ideal S1024x2560 .bf16) (x3 : Vec Ideal S1x1024 .f32) (x4 : Vec Ideal S1x1x512 .f32) (x5 : Vec Ideal S8x1 .f32) (x6 : Vec Ideal S32x384 .bf16) (x7 : Vec Ideal S256x256 .bf16) (x8 : Vec Ideal S1x512 .f32) (x9 : Vec Ideal S1x512 .f32)

/-- What the kernel leaves in its block of values. -/
theorem out11 : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 = blkV (projB x0 x1 x2) := by
  frame_open
  frame_out
  simp only [View.readCov_eq_canon', canon_proj, projB_fold]
  funext y
  canon_tiles x h
  all_goals
    unfold_payloads
    idx_vars x
    pointwise
    exact (blkV_at _ y _ _ h0 (by show _ = _ + _; omega)).symm

/-- … and of gates. -/
theorem out12 : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 = blkU (projB x0 x1 x2) := by
  frame_open
  frame_out
  simp only [View.readCov_eq_canon', canon_proj, projB_fold]
  funext y
  canon_tiles x h
  all_goals
    unfold_payloads
    idx_vars x
    pointwise
    exact (blkU_at _ y _ _ h0 (by show _ = _ + _; omega)).symm

/-- … and of normed gates. -/
theorem out13 : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 = blkN (projB x0 x1 x2) x8 x9 := by
  frame_open
  frame_out
  simp only [View.readCov_eq_canon', canon_proj, projB_fold]
  funext y
  simp only [k0_pay49, gate_fold]
  unfold k0_pay1 k0_pay50
  idx_vars y
  pointwise
  simp only [gate_at]
  rfl

/-- … and of queries and keys. -/
theorem out10 : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 = blkQK (projB x0 x1 x2) x3 x4 x5 x6 x7 := by
  frame_open
  frame_out
  simp only [View.readCov_eq_canon', canon_proj, canon_four, sums_proj4, projB_fold]
  simp only [canon_sums, sums_proj4, projB_fold]
  funext y
  canon_tiles x h
  all_goals
    unfold_payloads
    idx_vars x
    pointwise
    refine Eq.trans ?_ (by first
      | exact (blkQK_at _ _ _ _ _ _ y 0 (by decide) (by decide) _ _ h0 (h1.trans (Nat.zero_add _).symm)).symm
      | exact (blkQK_at _ _ _ _ _ _ y _ (by decide) (by decide) _ _ h0 h1).symm)
    unfold rotB pnB tab
    simp only [← Nat.add_assoc, Nat.reduceAdd, Nat.zero_add]
    rfl

end Cert.Kernel2Ideal.Hand

end
-- ==== Proof.ProjectionHost.lean ====
/- What the host operations leave for the input projection: the rows, weights and gains as the arguments hold them, and the
   constants of the rotary embedding: the frequencies, the table that places cosines and sines, and the blocks of ones. -/
module

public import proofs.«01_k».proof.Proof.Math
public import proofs.«01_k».proof.Proof.Gen.Kernel2Ideal.Value
public import Idealize.ShloMosaic.Lib.Pipeline.ValueKit
public import Idealize.ShloMosaic.Lib.Pipeline.ReadBack
public import Idealize.ShloMosaic.Lib.Pointwise
public import Idealize.ShloMosaic.Lib.StableHlo.Run

@[expose] public section

set_option maxRecDepth 16384

noncomputable section

namespace Cert.Kernel2Ideal.Hand

open Idealize.ShloMosaic Idealize.ShloMosaic.TcCoe Cert.Kernel2Ideal Cert.Kernel2Ideal.Gen Cert.Kernel2Ideal.Value Idealize.ShloMosaic.StableHlo

variable (m : (ℓ : Loc nD τ sig) → Buf (Elt Ideal) ℓ) (c : Dev nD)

/-- The arguments. -/
def argX : FVec Ideal S16x2048x1024 .f32 := m ((c.tc : Thread nD τ).loc main_arg0)
def argPos : IVec S16x2048 32 := m ((c.tc : Thread nD τ).loc main_arg1)
def argN : FVec Ideal S1x1024 .f32 := m ((c.tc : Thread nD τ).loc main_arg2)
def argW : FVec Ideal S1x1024x2560 .f32 := m ((c.tc : Thread nD τ).loc main_arg3)
def argGq : FVec Ideal S1x64 .f32 := m ((c.tc : Thread nD τ).loc main_arg4)
def argGk : FVec Ideal S1x64 .f32 := m ((c.tc : Thread nD τ).loc main_arg5)
def argLg : FVec Ideal S1x512 .f32 := m ((c.tc : Thread nD τ).loc main_arg6)
def argLb : FVec Ideal S1x512 .f32 := m ((c.tc : Thread nD τ).loc main_arg7)

/-- The arrays that the call reads. -/
def inX : FVec Ideal S32768x1024 .f32 := V m c main_v60
def inN : FVec Ideal S1x1024 .f32 := V m c main_v74
def inW : FVec Ideal S1024x2560 .bf16 := V m c main_v76
def inG : FVec Ideal S1x1024 .f32 := V m c main_v72
def inP : FVec Ideal S64x1x512 .f32 := V m c main_v1
def inF : FVec Ideal S8x1 .f32 := V m c main_v50
def inE : FVec Ideal S32x384 .bf16 := V m c main_v51
def inO : FVec Ideal S256x256 .bf16 := V m c main_v59
def inLg : FVec Ideal S1x512 .f32 := V m c main_v78
def inLb : FVec Ideal S1x512 .f32 := V m c main_v80

/-! ## The arguments, reshaped -/

theorem inX_eq : inX m c = shapeCast _ (argX m c) shapeCasts_S16x2048x1024_S32768x1024 := by
  unfold inX  V
  simp only [hostOps0, hostOps0_1, hostOps0_2, hostOps0_3, hostOps0_4, hostOps0_5, hostOps0_6, hostOps0_7, hostOps0_8, List.flatten_cons, List.flatten_nil, List.cons_append, List.nil_append, List.append_nil]
  after_results_simp
  rfl

theorem inX_apply (b : Fin 16) (x : Fin 2048) (k : Fin 1024) : inX m c (ix2 ⟨b.1 * 2048 + x.1, by omega⟩ k) = argX m c (ix3 b x k) := by
  rw [inX_eq]
  pointwise

theorem inN_eq : inN m c = shapeCast _ (shapeCast _ (argN m c) shapeCasts_S1x1024_S1024) shapeCasts_S1024_S1x1024 := by
  unfold inN  V
  simp only [hostOps0, hostOps0_1, hostOps0_2, hostOps0_3, hostOps0_4, hostOps0_5, hostOps0_6, hostOps0_7, hostOps0_8, List.flatten_cons, List.flatten_nil, List.cons_append, List.nil_append, List.append_nil]
  after_results_simp
  rfl

theorem inN_apply (k : Fin 1024) : inN m c (ix2 0 k) = argN m c (ix2 0 k) := by
  rw [inN_eq]
  pointwise

theorem inLg_eq : inLg m c = shapeCast _ (shapeCast _ (argLg m c) shapeCasts_S1x512_S512) shapeCasts_S512_S1x512 := by
  unfold inLg  V
  simp only [hostOps0, hostOps0_1, hostOps0_2, hostOps0_3, hostOps0_4, hostOps0_5, hostOps0_6, hostOps0_7, hostOps0_8, List.flatten_cons, List.flatten_nil, List.cons_append, List.nil_append, List.append_nil]
  after_results_simp
  rfl

theorem inLg_apply (k : Fin 512) : inLg m c (ix2 0 k) = argLg m c (ix2 0 k) := by
  rw [inLg_eq]
  pointwise

theorem inLb_eq : inLb m c = shapeCast _ (shapeCast _ (argLb m c) shapeCasts_S1x512_S512) shapeCasts_S512_S1x512 := by
  unfold inLb  V
  simp only [hostOps0, hostOps0_1, hostOps0_2, hostOps0_3, hostOps0_4, hostOps0_5, hostOps0_6, hostOps0_7, hostOps0_8, List.flatten_cons, List.flatten_nil, List.cons_append, List.nil_append, List.append_nil]
  after_results_simp
  rfl

theorem inLb_apply (k : Fin 512) : inLb m c (ix2 0 k) = argLb m c (ix2 0 k) := by
  rw [inLb_eq]
  pointwise

theorem inW_eq : inW m c = truncf .bf16 (shapeCast S1024x2560 (argW m c) shapeCasts_S1x1024x2560_S1024x2560) bitsLt_bf16_f32 := by
  unfold inW  V
  simp only [hostOps0, hostOps0_1, hostOps0_2, hostOps0_3, hostOps0_4, hostOps0_5, hostOps0_6, hostOps0_7, hostOps0_8, List.flatten_cons, List.flatten_nil, List.cons_append, List.nil_append, List.append_nil]
  after_results_simp
  rfl

theorem inW_apply (k : Fin 1024) (n : Fin 2560) : inW m c (ix2 k n) = argW m c (ix3 0 k n) := by
  rw [inW_eq]
  pointwise

theorem inP_eq : inP m c = sitofp .f32 (shapeCast S64x1x512 (argPos m c) shapeCasts_S16x2048_S64x1x512) := by
  unfold inP  V
  simp only [hostOps0, hostOps0_1, hostOps0_2, hostOps0_3, hostOps0_4, hostOps0_5, hostOps0_6, hostOps0_7, hostOps0_8, List.flatten_cons, List.flatten_nil, List.cons_append, List.nil_append, List.append_nil]
  after_results_simp
  rfl

theorem inP_apply (b : Fin 16) (x : Fin 2048) : inP m c (ix3 ⟨b.1 * 4 + x.1 / 512, by omega⟩ 0 ⟨x.1 % 512, by omega⟩)
    = FloatOps.sitofp (F := Ideal) .f32 (argPos m c (ix2 b x)) := by
  rw [inP_eq]
  pointwise

/-- The gains of queries (scaled) and keys, each repeated for its eight heads' halves. -/
def v66 : FVec Ideal S512 .f32 := V m c main_v66
def v70 : FVec Ideal S512 .f32 := V m c main_v70
theorem v66_eq : v66 m c = shapeCast S512 (broadcastInDim S8x64 ![0, 1] bcast_S1x64_S8x64_0_1 (shapeCast S1x64 (mulf (shapeCast S64 (argGq m c) shapeCasts_S1x64_S64) (broadcastInDim S64 ![] bcast_S_S64 (constant S_ .f32 0x3E000000#32))) shapeCasts_S64_S1x64)) shapeCasts_S8x64_S512 := by
  unfold v66  V
  simp only [hostOps0, hostOps0_1, hostOps0_2, hostOps0_3, hostOps0_4, hostOps0_5, hostOps0_6, hostOps0_7, hostOps0_8, List.flatten_cons, List.flatten_nil, List.cons_append, List.nil_append, List.append_nil]
  after_results_simp
  rfl
theorem v70_eq : v70 m c = shapeCast S512 (broadcastInDim S8x64 ![0, 1] bcast_S1x64_S8x64_0_1 (shapeCast S1x64 (shapeCast S64 (argGk m c) shapeCasts_S1x64_S64) shapeCasts_S64_S1x64)) shapeCasts_S8x64_S512 := by
  unfold v70  V
  simp only [hostOps0, hostOps0_1, hostOps0_2, hostOps0_3, hostOps0_4, hostOps0_5, hostOps0_6, hostOps0_7, hostOps0_8, List.flatten_cons, List.flatten_nil, List.cons_append, List.nil_append, List.append_nil]
  after_results_simp
  rfl
theorem inG_eq : inG m c = shapeCast S1x1024 (concatenate S1024 0 [⟨S512, v66 m c⟩, ⟨S512, v70 m c⟩] concatenates_S512_S512_S1024_d0) shapeCasts_S1024_S1x1024 := by
  unfold inG v66 v70 V
  simp only [hostOps0, hostOps0_1, hostOps0_2, hostOps0_3, hostOps0_4, hostOps0_5, hostOps0_6, hostOps0_7, hostOps0_8, List.flatten_cons, List.flatten_nil, List.cons_append, List.nil_append, List.append_nil]
  after_results_simp
  rfl

theorem inG_q (u : Fin 512) : inG m c (ix2 0 ⟨u.1, by omega⟩) = argGq m c (ix2 0 ⟨u.1 % 64, by omega⟩) * Ideal.ofBits .f32 0x3E000000#32 := by
  rw [inG_eq, v66_eq]
  pointwise

theorem inG_k (u : Fin 512) : inG m c (ix2 0 ⟨512 + u.1, by omega⟩) = argGk m c (ix2 0 ⟨u.1 % 64, by omega⟩) := by
  rw [inG_eq, v70_eq]
  pointwise

/-! ## The constants -/

/-- The frequency of a pair of lanes. -/
def freq (k : Fin 8) : EReal :=
  Ideal.pow (Ideal.ofBits .f32 0x48F42400#32) (Ideal.div (-(Ideal.ofBits .f32 0x40000000#32 * FloatOps.sitofp (F := Ideal) .f32 (BitVec.ofNat 32 k.1))) (Ideal.ofBits .f32 0x41800000#32))

theorem inF_apply (k : Fin 8) : inF m c (ix2 k 0) = freq k := by
  unfold inF V
  simp only [hostOps0, hostOps0_1, hostOps0_2, hostOps0_3, hostOps0_4, hostOps0_5, hostOps0_6, hostOps0_7, hostOps0_8, List.flatten_cons, List.flatten_nil, List.cons_append, List.nil_append, List.append_nil]
  after_results_simp
  pointwise
  rfl

/-- The remainder of division as the host computes it, its sign the divisor's. -/
def remOf (x : IVec S1x128 32) (d : IVec S_ 32) : IVec S1x128 32 :=
  let e : IVec S_ 32 := select (cmpi .eq d (constantI S_ 32 0#32)) (constantI S_ 32 1#32) d
  let r : IVec S1x128 32 := Host.remsi x (broadcastInDim S1x128 ![] bcast_S_S1x128 e)
  select (andi (cmpi .ne (cmpi .slt r (broadcastInDim S1x128 ![] bcast_S_S1x128 (constantI S_ 32 0#32))) (broadcastInDim S1x128 ![] bcast_S_S1x128 (cmpi .slt e (constantI S_ 32 0#32))))
      (cmpi .ne r (broadcastInDim S1x128 ![] bcast_S_S1x128 (constantI S_ 32 0#32))))
    (addi r (broadcastInDim S1x128 ![] bcast_S_S1x128 e)) r

/-- The lane of each column within its head half, and that lane's remainder by eight. -/
def v14 : IVec S1x128 32 := V m c main_v14
def v19 : IVec S1x128 32 := V m c main_v19

theorem v14_eq : v14 m c = remOf (broadcastInDim S1x128 ![1] bcast_S128_S1x128_1 (iotaInDim S128 32 0)) (constantI S_ 32 64#32) := by
  unfold v14 remOf V
  simp only [hostOps0, hostOps0_1, hostOps0_2, hostOps0_3, hostOps0_4, hostOps0_5, hostOps0_6, hostOps0_7, hostOps0_8, List.flatten_cons, List.flatten_nil, List.cons_append, List.nil_append, List.append_nil]
  after_results_simp
  simp only [StableHlo.TRef.ofBuf_toBuf]
  rfl
theorem v19_eq : v19 m c = remOf (v14 m c) (constantI S_ 32 8#32) := by
  unfold v19 remOf v14 V
  simp only [hostOps0, hostOps0_1, hostOps0_2, hostOps0_3, hostOps0_4, hostOps0_5, hostOps0_6, hostOps0_7, hostOps0_8, List.flatten_cons, List.flatten_nil, List.cons_append, List.nil_append, List.append_nil]
  after_results_simp
  simp only [StableHlo.TRef.ofBuf_toBuf]
  rfl

theorem v14_apply (l : Fin 128) : v14 m c (ix2 0 l) = BitVec.ofNat 32 (l.1 % 64) := by
  rw [v14_eq]
  unfold remOf
  pointwise
  revert l
  decide +kernel

theorem v19_apply (l : Fin 128) : v19 m c (ix2 0 l) = BitVec.ofNat 32 (l.1 % 8) := by
  rw [v19_eq]
  unfold remOf
  pointwise
  rw [v14_apply]
  revert l
  decide +kernel

/-- Of a column's quotient by 64, rounded down as the host does it. -/
def quotOf (x : IVec S256 32) (d : IVec S_ 32) : IVec S256 32 :=
  let q : IVec S256 32 := Host.divsi x (broadcastInDim S256 ![] bcast_S_S256 d)
  select (andi (cmpi .ne (signi x) (broadcastInDim S256 ![] bcast_S_S256 (signi d)))
      (cmpi .ne (Host.remsi x (broadcastInDim S256 ![] bcast_S_S256 d)) (broadcastInDim S256 ![] bcast_S_S256 (constantI S_ 32 0#32))))
    (subi q (broadcastInDim S256 ![] bcast_S_S256 (constantI S_ 32 1#32))) q

def v53 : IVec S256 32 := V m c main_v53

theorem v53_eq : v53 m c = quotOf (iotaInDim S256 32 0) (constantI S_ 32 64#32) := by
  unfold v53 quotOf V
  simp only [hostOps0, hostOps0_1, hostOps0_2, hostOps0_3, hostOps0_4, hostOps0_5, hostOps0_6, hostOps0_7, hostOps0_8, List.flatten_cons, List.flatten_nil, List.cons_append, List.nil_append, List.append_nil]
  after_results_simp
  simp only [StableHlo.TRef.ofBuf_toBuf]
  rfl

theorem v53_apply (l : Fin 256) : v53 m c (ix1 l) = BitVec.ofNat 32 (l.1 / 64) := by
  rw [v53_eq]
  unfold quotOf
  pointwise
  revert l
  decide +kernel

theorem inO_eq : inO m c = uitofp .bf16 (cmpi .eq (broadcastInDim S256x256 ![0, 1] bcast_S256x1_S256x256_0_1 (broadcastInDim S256x1 ![0] bcast_S256_S256x1_0 (v53 m c))) (broadcastInDim S256x256 ![0, 1] bcast_S1x256_S256x256_0_1 (broadcastInDim S1x256 ![1] bcast_S256_S1x256_1 (v53 m c)))) := by
  unfold inO v53 V
  simp only [hostOps0, hostOps0_1, hostOps0_2, hostOps0_3, hostOps0_4, hostOps0_5, hostOps0_6, hostOps0_7, hostOps0_8, List.flatten_cons, List.flatten_nil, List.cons_append, List.nil_append, List.append_nil]
  after_results_simp

theorem bit_one (φ : FTy) : FloatOps.uitofp (F := Ideal) φ (1#1) = (1 : EReal) := by
  show (((1#1 : BitVec 1).toNat : ℝ) : EReal) = 1
  norm_num
theorem bit_zero (φ : FTy) : FloatOps.uitofp (F := Ideal) φ (0#1) = (0 : EReal) := by
  show (((0#1 : BitVec 1).toNat : ℝ) : EReal) = 0
  norm_num

theorem bit_ite (φ : FTy) (p : Prop) [Decidable p] (b : BitVec 1) (h : b = if p then 1#1 else 0#1) :
    FloatOps.uitofp (F := Ideal) φ b = if p then (1 : EReal) else 0 := by
  subst h
  split
  · exact bit_one φ
  · exact bit_zero φ

theorem inO_apply (a b : Fin 256) : inO m c (ix2 a b) = if a.1 / 64 = b.1 / 64 then (1 : EReal) else 0 := by
  rw [inO_eq]
  pointwise
  rw [v53_apply, v53_apply]
  refine bit_ite _ _ _ ?_
  revert a b
  decide +kernel

def v45 : FVec Ideal S32x128 .f32 := V m c main_v45
def v47 : FVec Ideal S32x128 .f32 := V m c main_v47
def v48 : FVec Ideal S32x128 .f32 := V m c main_v48
theorem v45_eq : v45 m c = uitofp .f32 (select (broadcastInDim S32x128 ![0, 1] bcast_S1x128_S32x128_0_1 (cmpi .slt (v14 m c) (broadcastInDim S1x128 ![] bcast_S_S1x128 (constantI S_ 32 16#32)))) (cmpi .eq (broadcastInDim S32x128 ![0, 1] bcast_S32x1_S32x128_0_1 (broadcastInDim S32x1 ![0] bcast_S32_S32x1_0 (iotaInDim S32 32 0))) (broadcastInDim S32x128 ![0, 1] bcast_S1x128_S32x128_0_1 (v19 m c))) (broadcastInDim S32x128 ![0, 1] bcast_S32x1_S32x128_0_1 (cmpi .eq (broadcastInDim S32x1 ![0] bcast_S32_S32x1_0 (iotaInDim S32 32 0)) (broadcastInDim S32x1 ![] bcast_S_S32x1 (constantI S_ 32 16#32))))) := by
  unfold v45 v14 v19 V
  simp only [hostOps0, hostOps0_1, hostOps0_2, hostOps0_3, hostOps0_4, hostOps0_5, hostOps0_6, hostOps0_7, hostOps0_8, List.flatten_cons, List.flatten_nil, List.cons_append, List.nil_append, List.append_nil]
  after_results_simp
  simp only [StableHlo.TRef.ofBuf_toBuf]
  rfl
theorem v47_eq : v47 m c = Host.negf (uitofp .f32 (andi (broadcastInDim S32x128 ![0, 1] bcast_S1x128_S32x128_0_1 (cmpi .slt (v14 m c) (broadcastInDim S1x128 ![] bcast_S_S1x128 (constantI S_ 32 8#32)))) (cmpi .eq (broadcastInDim S32x128 ![0, 1] bcast_S32x1_S32x128_0_1 (broadcastInDim S32x1 ![0] bcast_S32_S32x1_0 (iotaInDim S32 32 0))) (broadcastInDim S32x128 ![0, 1] bcast_S1x128_S32x128_0_1 (addi (broadcastInDim S1x128 ![] bcast_S_S1x128 (constantI S_ 32 8#32)) (v14 m c)))))) := by
  unfold v47 v14 V
  simp only [hostOps0, hostOps0_1, hostOps0_2, hostOps0_3, hostOps0_4, hostOps0_5, hostOps0_6, hostOps0_7, hostOps0_8, List.flatten_cons, List.flatten_nil, List.cons_append, List.nil_append, List.append_nil]
  after_results_simp
theorem v48_eq : v48 m c = uitofp .f32 (andi (broadcastInDim S32x128 ![0, 1] bcast_S1x128_S32x128_0_1 (andi (cmpi .sge (v14 m c) (broadcastInDim S1x128 ![] bcast_S_S1x128 (constantI S_ 32 8#32))) (cmpi .slt (v14 m c) (broadcastInDim S1x128 ![] bcast_S_S1x128 (constantI S_ 32 16#32))))) (cmpi .eq (broadcastInDim S32x128 ![0, 1] bcast_S32x1_S32x128_0_1 (broadcastInDim S32x1 ![0] bcast_S32_S32x1_0 (iotaInDim S32 32 0))) (broadcastInDim S32x128 ![0, 1] bcast_S1x128_S32x128_0_1 (v14 m c)))) := by
  unfold v48 v14 V
  simp only [hostOps0, hostOps0_1, hostOps0_2, hostOps0_3, hostOps0_4, hostOps0_5, hostOps0_6, hostOps0_7, hostOps0_8, List.flatten_cons, List.flatten_nil, List.cons_append, List.nil_append, List.append_nil]
  after_results_simp
theorem inE_eq : inE m c = truncf .bf16 (concatenate S32x384 1 [⟨S32x128, v45 m c⟩, ⟨S32x128, v47 m c⟩, ⟨S32x128, v48 m c⟩] concatenates_S32x128_S32x128_S32x128_S32x384_d1) bitsLt_bf16_f32 := by
  unfold inE v45 v47 v48 V
  simp only [hostOps0, hostOps0_1, hostOps0_2, hostOps0_3, hostOps0_4, hostOps0_5, hostOps0_6, hostOps0_7, hostOps0_8, List.flatten_cons, List.flatten_nil, List.cons_append, List.nil_append, List.append_nil]
  after_results_simp
  rfl

theorem v45_apply (k : Fin 32) (l : Fin 128) : v45 m c (ix2 k l) = if k.1 = (if l.1 % 64 < 16 then l.1 % 8 else 16) then (1 : EReal) else 0 := by
  rw [v45_eq]
  pointwise
  rw [v14_apply, v19_apply]
  refine bit_ite _ _ _ ?_
  revert k l
  decide +kernel

theorem v47_apply (k : Fin 32) (l : Fin 128) : v47 m c (ix2 k l) = -(if l.1 % 64 < 8 ∧ k.1 = 8 + l.1 % 64 then (1 : EReal) else 0) := by
  rw [v47_eq]
  pointwise
  rw [v14_apply]
  refine congrArg (fun t : EReal => -t) (bit_ite _ _ _ ?_)
  revert k l
  decide +kernel

theorem v48_apply (k : Fin 32) (l : Fin 128) : v48 m c (ix2 k l) = if 8 ≤ l.1 % 64 ∧ l.1 % 64 < 16 ∧ k.1 = l.1 % 64 then (1 : EReal) else 0 := by
  rw [v48_eq]
  pointwise
  rw [v14_apply]
  refine bit_ite _ _ _ ?_
  revert k l
  decide +kernel

theorem inE_c (k : Fin 32) (l : Fin 128) : inE m c (ix2 k ⟨l.1, by omega⟩) = v45 m c (ix2 k l) := by
  rw [inE_eq]
  pointwise

theorem inE_a (k : Fin 32) (l : Fin 128) : inE m c (ix2 k ⟨128 + l.1, by omega⟩) = v47 m c (ix2 k l) := by
  rw [inE_eq]
  pointwise

theorem inE_b (k : Fin 32) (l : Fin 128) : inE m c (ix2 k ⟨256 + l.1, by omega⟩) = v48 m c (ix2 k l) := by
  have e : (⟨256 + l.1 - 128 - 128, by omega⟩ : Fin 128) = l := Fin.ext (by show 256 + l.1 - 128 - 128 = l.1; omega)
  rw [inE_eq]
  pointwise
  rw [dif_neg (by omega), dif_neg (by omega), e]

end Cert.Kernel2Ideal.Hand

end
-- ==== Proof.ProjectionArray.lean ====
/- The input projection's four results, each one array of the arguments: the blocks written at the grid's points, put together.
   Every result is read row by row, from the row of the projection. -/
module

public import proofs.«01_k».proof.Proof.ProjectionBlock
public import proofs.«01_k».proof.Proof.ProjectionHost

@[expose] public section

set_option maxRecDepth 16384

noncomputable section

namespace Cert.Kernel2Ideal.Hand

open Idealize.ShloMosaic Idealize.ShloMosaic.TcCoe Cert.Kernel2Ideal Cert.Kernel2Ideal.Gen Cert.Kernel2Ideal.Value Idealize.ShloMosaic.StableHlo

/-! ## The blocks, row by row -/

/-- The sum of squares of a row's head half, against the block of ones. -/
def sumsR (f : Fin 2560 → EReal) (x7 : Vec Ideal S256x256 .bf16) (n : Fin 1024) : EReal :=
  ∑ k : Fin 256, f ⟨n.1 / 256 * 256 + k.1, by omega⟩ * f ⟨n.1 / 256 * 256 + k.1, by omega⟩ * x7 (ix2 k ⟨n.1 % 256, by omega⟩)

/-- A normed entry of a row. -/
def normR (f : Fin 2560 → EReal) (x3 : Vec Ideal S1x1024 .f32) (x7 : Vec Ideal S256x256 .bf16) (n : Fin 1024) : EReal :=
  f ⟨n.1, by omega⟩ * Ideal.rsqrt (sumsR f x7 n * Ideal.ofBits .f32 0x3C800000#32 + Ideal.ofBits .f32 0x358637BD#32) * x3 (ix2 0 n)

/-- The stacked cosines, sines, ones and zeros at a position. -/
def csR (pos : EReal) (x5 : Vec Ideal S8x1 .f32) (k : Fin 32) : EReal :=
  if h : k.1 < 8 then Ideal.cos (x5 (ix2 ⟨k.1, h⟩ 0) * pos)
  else if h : k.1 - 8 < 8 then Ideal.sin (x5 (ix2 ⟨k.1 - 8, h⟩ 0) * pos)
  else if k.1 - 8 - 8 < 8 then 1 else 0

/-- The expanded table at a position. -/
def tabR (pos : EReal) (x5 : Vec Ideal S8x1 .f32) (x6 : Vec Ideal S32x384 .bf16) (n : Fin 384) : EReal :=
  (∑ k : Fin 32, csR pos x5 k * x6 (ix2 k n) : EReal) + ∑ k : Fin 32, (csR pos x5 k - csR pos x5 k) * x6 (ix2 k n)

/-- A rotated entry of a row. -/
def rotR (f : Fin 2560 → EReal) (x3 : Vec Ideal S1x1024 .f32) (pos : EReal) (x5 : Vec Ideal S8x1 .f32) (x6 : Vec Ideal S32x384 .bf16) (x7 : Vec Ideal S256x256 .bf16) (n : Fin 1024) : EReal :=
  normR f x3 x7 ⟨n.1 / 128 * 128 + n.1 % 128, by omega⟩ * tabR pos x5 x6 ⟨n.1 % 128, by omega⟩
    + normR f x3 x7 ⟨n.1 / 128 * 128 + (n.1 % 128 + 128 - 120) % 128, by omega⟩ * tabR pos x5 x6 ⟨128 + n.1 % 128, by omega⟩
    + normR f x3 x7 ⟨n.1 / 128 * 128 + (n.1 % 128 + 128 - 8) % 128, by omega⟩ * tabR pos x5 x6 ⟨256 + n.1 % 128, by omega⟩

/-- A normed gate of a row. -/
def gateR (f : Fin 2560 → EReal) (x8 x9 : Vec Ideal S1x512 .f32) (n : Fin 512) : EReal :=
  lnorm (fun n => gelu (f ⟨2048 + n.1, by omega⟩)) (x8 (ix2 0 n)) (x9 (ix2 0 n)) n

theorem blkQK_row (p : Vec Ideal S512x2560 .f32) (x3 : Vec Ideal S1x1024 .f32) (x4 : Vec Ideal S1x1x512 .f32) (x5 : Vec Ideal S8x1 .f32) (x6 : Vec Ideal S32x384 .bf16) (x7 : Vec Ideal S256x256 .bf16)
    (y : S512x1024.Idx) : blkQK p x3 x4 x5 x6 x7 y = rotR (fun n => p (ix2 (y 0) n)) x3 (x4 (ix3 0 0 (y 0))) x5 x6 x7 (y 1) := rfl

theorem blkN_row (p : Vec Ideal S512x2560 .f32) (x8 x9 : Vec Ideal S1x512 .f32) (y : S512x512.Idx) :
    blkN p x8 x9 y = gateR (fun n => p (ix2 (y 0) n)) x8 x9 (y 1) := rfl

variable (m : (ℓ : Loc nD τ sig) → Buf (Elt Ideal) ℓ) (c : Dev nD)

/-! ## The input blocks -/

theorem ix_0 : ∀ t : Fin cfg0.N, win0_0.index t = ![(grid0.coords t 0).val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![(grid0.coords t 0).val, 0, 0] := (by decide +kernel : ∀ t : Fin grid0.N, _)
theorem ix_5 : ∀ t : Fin cfg0.N, win0_5.index t = ![0, 0] := (by decide +kernel : ∀ t : Fin grid0.N, _)
theorem ix_6 : ∀ t : Fin cfg0.N, win0_6.index t = ![0, 0] := (by decide +kernel : ∀ t : Fin grid0.N, _)
theorem ix_7 : ∀ t : Fin cfg0.N, win0_7.index t = ![0, 0] := (by decide +kernel : ∀ t : Fin grid0.N, _)
theorem ix_8 : ∀ t : Fin cfg0.N, win0_8.index t = ![0, 0] := (by decide +kernel : ∀ t : Fin grid0.N, _)
theorem ix_9 : ∀ t : Fin cfg0.N, win0_9.index t = ![0, 0] := (by decide +kernel : ∀ t : Fin grid0.N, _)
theorem ix_10 : ∀ t : Fin cfg0.N, win0_10.index t = ![(grid0.coords t 0).val, 0] := (by decide +kernel : ∀ t : Fin grid0.N, _)
theorem ix_11 : ∀ t : Fin cfg0.N, win0_11.index t = ![(grid0.coords t 0).val, 0] := (by decide +kernel : ∀ t : Fin grid0.N, _)
theorem ix_12 : ∀ t : Fin cfg0.N, win0_12.index t = ![(grid0.coords t 0).val, 0] := (by decide +kernel : ∀ t : Fin grid0.N, _)
theorem ix_13 : ∀ t : Fin cfg0.N, win0_13.index t = ![(grid0.coords t 0).val, 0] := (by decide +kernel : ∀ t : Fin grid0.N, _)

theorem lt_0 (t : Fin cfg0.N) : (grid0.coords t 0).val < 64 := (grid0.coords t 0).2

/-- A block of rows. -/
def rowsOf (a : FVec Ideal S32768x1024 .f32) (b : Fin 64) : Vec Ideal S512x1024 .f32 :=
  fun y => a (ix2 ⟨b.1 * 512 + (y 0).1, by have := (y 0).2; have : S512x1024.size 0 = 512 := rfl; omega⟩ (y 1))

/-- A block of positions. -/
def posOf (a : FVec Ideal S64x1x512 .f32) (b : Fin 64) : Vec Ideal S1x1x512 .f32 := fun y => a (ix3 b 0 (y 2))

theorem blk_0 (t : Fin cfg0.N) : (iblk m c 0 t : Vec Ideal S512x1024 .f32) = rowsOf (inX m c) ⟨(grid0.coords t 0).val, lt_0 t⟩ := by
  funext y
  unfold rowsOf inX
  blk_ext [iblk, ix_0]
theorem blk_1 (t : Fin cfg0.N) : (iblk m c 1 t : Vec Ideal S1x1024 .f32) = inN m c := by
  funext y
  unfold inN
  blk_ext [iblk, ix_1]
theorem blk_2 (t : Fin cfg0.N) : (iblk m c 2 t : Vec Ideal S1024x2560 .bf16) = inW m c := by
  funext y
  unfold inW
  blk_ext [iblk, ix_2]
theorem blk_3 (t : Fin cfg0.N) : (iblk m c 3 t : Vec Ideal S1x1024 .f32) = inG m c := by
  funext y
  unfold inG
  blk_ext [iblk, ix_3]
theorem blk_4 (t : Fin cfg0.N) : (iblk m c 4 t : Vec Ideal S1x1x512 .f32) = posOf (inP m c) ⟨(grid0.coords t 0).val, lt_0 t⟩ := by
  funext y
  unfold posOf inP
  blk_ext [iblk, ix_4]
theorem blk_5 (t : Fin cfg0.N) : (iblk m c 5 t : Vec Ideal S8x1 .f32) = inF m c := by
  funext y
  unfold inF
  blk_ext [iblk, ix_5]
theorem blk_6 (t : Fin cfg0.N) : (iblk m c 6 t : Vec Ideal S32x384 .bf16) = inE m c := by
  funext y
  unfold inE
  blk_ext [iblk, ix_6]
theorem blk_7 (t : Fin cfg0.N) : (iblk m c 7 t : Vec Ideal S256x256 .bf16) = inO m c := by
  funext y
  unfold inO
  blk_ext [iblk, ix_7]
theorem blk_8 (t : Fin cfg0.N) : (iblk m c 8 t : Vec Ideal S1x512 .f32) = inLg m c := by
  funext y
  unfold inLg
  blk_ext [iblk, ix_8]
theorem blk_9 (t : Fin cfg0.N) : (iblk m c 9 t : Vec Ideal S1x512 .f32) = inLb m c := by
  funext y
  unfold inLb
  blk_ext [iblk, ix_9]

/-! ## The results' arrays -/

/-- The normed rows of the layer's input. -/
def normX (a : FVec Ideal S32768x1024 .f32) (g : FVec Ideal S1x1024 .f32) (r : Fin 32768) (k : Fin 1024) : EReal :=
  a (ix2 r k) * Ideal.rsqrt (Ideal.div (∑ x : Fin 1024, a (ix2 r x) * a (ix2 r x)) (Ideal.ofBits .f32 0x44800000#32) + Ideal.ofBits .f32 0x358637BD#32) * g (ix2 0 k)

/-- The projection's rows. -/
def projX (r : Fin 32768) (n : Fin 2560) : EReal := ∑ k : Fin 1024, normX (inX m c) (inN m c) r k * inW m c (ix2 k n)

theorem pay2_at (x0 : Vec Ideal S512x1024 .f32) (x1 : Vec Ideal S1x1024 .f32) (r : Fin 512) (k : Fin 1024) :
    k0_pay2 (F := Ideal) x0 x1 (ix2 r k)
      = x0 (ix2 r k) * Ideal.rsqrt (Ideal.div (∑ x : Fin 1024, x0 (ix2 r x) * x0 (ix2 r x)) (Ideal.ofBits .f32 0x44800000#32) + Ideal.ofBits .f32 0x358637BD#32) * x1 (ix2 0 k) := by
  unfold_payloads
  pointwise

theorem projB_of (a : FVec Ideal S32768x1024 .f32) (g : FVec Ideal S1x1024 .f32) (w : FVec Ideal S1024x2560 .bf16) (b : Fin 64) (r : Fin 512) (n : Fin 2560) :
    projB (rowsOf a b) g w (ix2 r n) = ∑ k : Fin 1024, normX a g ⟨b.1 * 512 + r.1, by omega⟩ k * w (ix2 k n) := by
  unfold projB
  rw [proj_at _ _ _ r n rfl rfl]
  refine Finset.sum_congr rfl fun k _ => ?_
  rw [pay2_at]
  rfl

theorem projB_row (b : Fin 64) (r : Fin 512) (n : Fin 2560) :
    projB (rowsOf (inX m c) b) (inN m c) (inW m c) (ix2 r n) = projX m c ⟨b.1 * 512 + r.1, by omega⟩ n :=
  projB_of _ _ _ b r n

theorem projB_fun (b : Fin 64) (r : Fin 512) :
    (fun n => projB (rowsOf (inX m c) b) (inN m c) (inW m c) (ix2 r n)) = projX m c ⟨b.1 * 512 + r.1, by omega⟩ :=
  funext fun n => projB_row m c b r n

/-- The results: queries and keys, values, gates and normed gates. -/
def resQK : FVec Ideal S32768x1024 .bf16 := fun j =>
  rotR (projX m c (j 0)) (inG m c) (inP m c (ix3 ⟨(j 0).1 / 512, by have := (j 0).2; have : S32768x1024.size 0 = 32768 := rfl; omega⟩ 0 ⟨(j 0).1 % 512, by omega⟩)) (inF m c) (inE m c) (inO m c) (j 1)
def resV : FVec Ideal S32768x512 .bf16 := fun j => projX m c (j 0) ⟨1024 + (j 1).1, by have := (j 1).2; have : S32768x512.size 1 = 512 := rfl; omega⟩
def resU : FVec Ideal S32768x512 .bf16 := fun j => gelu (projX m c (j 0) ⟨1536 + (j 1).1, by have := (j 1).2; have : S32768x512.size 1 = 512 := rfl; omega⟩)
def resN : FVec Ideal S32768x512 .bf16 := fun j => gateR (projX m c (j 0)) (inLg m c) (inLb m c) (j 1)

theorem ix_j1024 (b : Fin 64) (r : Fin 512) (n : Fin 1024) (j : S32768x1024.Idx) (h0 : (j 0).1 = b.1 * 512 + r.1) (h1 : (j 1).1 = n.1) :
    j = ix2 ⟨b.1 * 512 + r.1, by omega⟩ n := by
  funext a
  refine Fin.ext ?_
  fin_cases a
  · exact h0
  · exact h1

theorem ix_j512 (b : Fin 64) (r : Fin 512) (n : Fin 512) (j : S32768x512.Idx) (h0 : (j 0).1 = b.1 * 512 + r.1) (h1 : (j 1).1 = n.1) :
    j = ix2 ⟨b.1 * 512 + r.1, by omega⟩ n := by
  funext a
  refine Fin.ext ?_
  fin_cases a
  · exact h0
  · exact h1

theorem resQK_at (b : Fin 64) (r : Fin 512) (n : Fin 1024) :
    blkQK (projB (rowsOf (inX m c) b) (inN m c) (inW m c)) (inG m c) (posOf (inP m c) b) (inF m c) (inE m c) (inO m c) (ix2 r n) = resQK m c (ix2 ⟨b.1 * 512 + r.1, by omega⟩ n) := by
  rw [blkQK_row]
  show rotR (fun n => projB (rowsOf (inX m c) b) (inN m c) (inW m c) (ix2 r n)) (inG m c) (inP m c (ix3 b 0 r)) (inF m c) (inE m c) (inO m c) n
    = rotR (projX m c ⟨b.1 * 512 + r.1, by omega⟩) (inG m c) (inP m c (ix3 ⟨(b.1 * 512 + r.1) / 512, by omega⟩ 0 ⟨(b.1 * 512 + r.1) % 512, by omega⟩)) (inF m c) (inE m c) (inO m c) n
  have eb : (⟨(b.1 * 512 + r.1) / 512, by omega⟩ : Fin 64) = b := Fin.ext (by show (b.1 * 512 + r.1) / 512 = b.1; omega)
  have er : (⟨(b.1 * 512 + r.1) % 512, by omega⟩ : Fin 512) = r := Fin.ext (by show (b.1 * 512 + r.1) % 512 = r.1; omega)
  rw [projB_fun, eb, er]

theorem resQK_apply (b : Fin 64) (y : S512x1024.Idx) (j : S32768x1024.Idx) (h0 : (j 0).1 = b.1 * 512 + (y 0).1) (h1 : (j 1).1 = (y 1).1) :
    blkQK (projB (rowsOf (inX m c) b) (inN m c) (inW m c)) (inG m c) (posOf (inP m c) b) (inF m c) (inE m c) (inO m c) y = resQK m c j := by
  obtain ⟨r, n, rfl⟩ : ∃ (r : Fin 512) (n : Fin 1024), y = ix2 r n := ⟨y 0, y 1, eq_ix2 y⟩
  exact (resQK_at m c b r n).trans (congrArg (resQK m c) (ix_j1024 b r n j h0 h1).symm)

theorem resV_at (b : Fin 64) (r : Fin 512) (n : Fin 512) :
    blkV (projB (rowsOf (inX m c) b) (inN m c) (inW m c)) (ix2 r n) = resV m c (ix2 ⟨b.1 * 512 + r.1, by omega⟩ n) := by
  show projB (rowsOf (inX m c) b) (inN m c) (inW m c) (ix2 r ⟨1024 + n.1, by omega⟩) = projX m c ⟨b.1 * 512 + r.1, by omega⟩ ⟨1024 + n.1, by omega⟩
  exact projB_row m c b r _

theorem resV_apply (b : Fin 64) (y : S512x512.Idx) (j : S32768x512.Idx) (h0 : (j 0).1 = b.1 * 512 + (y 0).1) (h1 : (j 1).1 = (y 1).1) :
    blkV (projB (rowsOf (inX m c) b) (inN m c) (inW m c)) y = resV m c j := by
  obtain ⟨r, n, rfl⟩ : ∃ (r : Fin 512) (n : Fin 512), y = ix2 r n := ⟨y 0, y 1, eq_ix2 y⟩
  exact (resV_at m c b r n).trans (congrArg (resV m c) (ix_j512 b r n j h0 h1).symm)

theorem resU_at (b : Fin 64) (r : Fin 512) (n : Fin 512) :
    blkU (projB (rowsOf (inX m c) b) (inN m c) (inW m c)) (ix2 r n) = resU m c (ix2 ⟨b.1 * 512 + r.1, by omega⟩ n) := by
  show gelu (projB (rowsOf (inX m c) b) (inN m c) (inW m c) (ix2 r ⟨1536 + n.1, by omega⟩)) = gelu (projX m c ⟨b.1 * 512 + r.1, by omega⟩ ⟨1536 + n.1, by omega⟩)
  rw [projB_row]

theorem resU_apply (b : Fin 64) (y : S512x512.Idx) (j : S32768x512.Idx) (h0 : (j 0).1 = b.1 * 512 + (y 0).1) (h1 : (j 1).1 = (y 1).1) :
    blkU (projB (rowsOf (inX m c) b) (inN m c) (inW m c)) y = resU m c j := by
  obtain ⟨r, n, rfl⟩ : ∃ (r : Fin 512) (n : Fin 512), y = ix2 r n := ⟨y 0, y 1, eq_ix2 y⟩
  exact (resU_at m c b r n).trans (congrArg (resU m c) (ix_j512 b r n j h0 h1).symm)

theorem resN_at (b : Fin 64) (r : Fin 512) (n : Fin 512) :
    blkN (projB (rowsOf (inX m c) b) (inN m c) (inW m c)) (inLg m c) (inLb m c) (ix2 r n) = resN m c (ix2 ⟨b.1 * 512 + r.1, by omega⟩ n) := by
  rw [blkN_row]
  show gateR (fun n => projB (rowsOf (inX m c) b) (inN m c) (inW m c) (ix2 r n)) (inLg m c) (inLb m c) n = gateR (projX m c ⟨b.1 * 512 + r.1, by omega⟩) (inLg m c) (inLb m c) n
  rw [projB_fun]

theorem resN_apply (b : Fin 64) (y : S512x512.Idx) (j : S32768x512.Idx) (h0 : (j 0).1 = b.1 * 512 + (y 0).1) (h1 : (j 1).1 = (y 1).1) :
    blkN (projB (rowsOf (inX m c) b) (inN m c) (inW m c)) (inLg m c) (inLb m c) y = resN m c j := by
  obtain ⟨r, n, rfl⟩ : ∃ (r : Fin 512) (n : Fin 512), y = ix2 r n := ⟨y 0, y 1, eq_ix2 y⟩
  exact (resN_at m c b r n).trans (congrArg (resN m c) (ix_j512 b r n j h0 h1).symm)

theorem arr_10 : (dats m 0 c).arrAt 10 cfg0.N = resQK m c := by
  refine (dats m 0 c).arrAt_eq_of_covers 10 _ (by decide +kernel) fun t hf y => ?_
  blk_simp
  rw [after0_10]
  unfold outsAt0
  dsimp only
  rw [out10, blk_0, blk_1, blk_2, blk_3, blk_4, blk_5, blk_6, blk_7]
  refine resQK_apply m c ⟨(grid0.coords t 0).val, lt_0 t⟩ y _ ?_ ?_
  all_goals blk_simp [ix_10]

theorem arr_11 : (dats m 0 c).arrAt 11 cfg0.N = resV m c := by
  refine (dats m 0 c).arrAt_eq_of_covers 11 _ (by decide +kernel) fun t hf y => ?_
  blk_simp
  rw [after0_11]
  unfold outsAt0
  dsimp only
  rw [out11, blk_0, blk_1, blk_2]
  refine resV_apply m c ⟨(grid0.coords t 0).val, lt_0 t⟩ y _ ?_ ?_
  all_goals blk_simp [ix_11]

theorem arr_12 : (dats m 0 c).arrAt 12 cfg0.N = resU m c := by
  refine (dats m 0 c).arrAt_eq_of_covers 12 _ (by decide +kernel) fun t hf y => ?_
  blk_simp
  rw [after0_12]
  unfold outsAt0
  dsimp only
  rw [out12, blk_0, blk_1, blk_2]
  refine resU_apply m c ⟨(grid0.coords t 0).val, lt_0 t⟩ y _ ?_ ?_
  all_goals blk_simp [ix_12]

theorem arr_13 : (dats m 0 c).arrAt 13 cfg0.N = resN m c := by
  refine (dats m 0 c).arrAt_eq_of_covers 13 _ (by decide +kernel) fun t hf y => ?_
  blk_simp
  rw [after0_13]
  unfold outsAt0
  dsimp only
  rw [out13, blk_0, blk_1, blk_2, blk_8, blk_9]
  refine resN_apply m c ⟨(grid0.coords t 0).val, lt_0 t⟩ y _ ?_ ?_
  all_goals blk_simp [ix_13]

end Cert.Kernel2Ideal.Hand

end
-- ==== Proof.ProjectionReference.lean ====
/- The input projection's reference, read at an index: the norm and projection, the heads, their norm, the rotary embedding, GELU
   and the gate's layer norm, each stated of any arrays, then put together. -/
module

public import proofs.«01_k».proof.Proof.Math
public import proofs.«01_k».proof.Proof.Gen.Reference2Ideal
public import proofs.«01_k».proof.Proof.Gen.Reference2Ideal.Run
public import Idealize.ShloMosaic.Lib.Pointwise
public import Idealize.ShloMosaic.Lib.Tactic.CleanTypes

@[expose] public section

set_option maxRecDepth 16384

noncomputable section

namespace Cert.Reference2Ideal.Hand

open Idealize.ShloMosaic Idealize.ShloMosaic.TcCoe Cert.Reference2Ideal Cert.Reference2Ideal.Gen Cert.Reference2Ideal.Value

/-- The projection of the normed input. -/
def projA (a0 : FVec Ideal S16x2048x1024 .f32) (a2 : FVec Ideal S1x1024 .f32) (a3 : FVec Ideal S1x1024x2560 .f32) : FVec Ideal S16x2048x2560 .f32 :=
  Host.dotGeneral dot_S16x2048x1024_S1024x2560_S16x2048x2560_2_0_01_1_n_n none (mulf (mulf a0 (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf a0 a0) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ a2 shapeCasts_S1x1024_S1024)))) (shapeCast _ a3 shapeCasts_S1x1024x2560_S1024x2560)

/-- The heads of queries and of keys. -/
def headQ (p : FVec Ideal S16x2048x2560 .f32) : FVec Ideal S16x2048x4x2x64 .f32 :=
  shapeCast _ (extractStridedSlice S16x2048x512 ![0, 0, 0] p slices_S16x2048x2560_S16x2048x512_0_0_0) shapeCasts_S16x2048x512_S16x2048x4x2x64
def headK (p : FVec Ideal S16x2048x2560 .f32) : FVec Ideal S16x2048x4x2x64 .f32 :=
  shapeCast _ (extractStridedSlice S16x2048x512 ![0, 0, 512] p slices_S16x2048x2560_S16x2048x512_0_0_512) shapeCasts_S16x2048x512_S16x2048x4x2x64

/-- A head half's norm. -/
def normA (z : FVec Ideal S16x2048x4x2x64 .f32) (g : FVec Ideal S1x64 .f32) : FVec Ideal S16x2048x4x2x64 .f32 :=
  mulf (mulf z (broadcastInDim S16x2048x4x2x64 ![0, 1, 2, 3, 4] bcast_S16x2048x4x2x1_S16x2048x4x2x64_0_1_2_3_4 (Host.rsqrt (addf (Host.divf (broadcastInDim S16x2048x4x2x1 ![0, 1, 2, 3] bcast_S16x2048x4x2_S16x2048x4x2x1_0_1_2_3 (Host.reduceAdd (mulf z z) (constant S_ .f32 0x00000000#32) reducesTo_S16x2048x4x2x64_S16x2048x4x2_d4 h_S_)) (broadcastInDim S16x2048x4x2x1 ![] bcast_S_S16x2048x4x2x1 (constant S_ .f32 0x42800000#32))) (broadcastInDim S16x2048x4x2x1 ![] bcast_S_S16x2048x4x2x1 (constant S_ .f32 0x358637BD#32)))))) (broadcastInDim S16x2048x4x2x64 ![0, 1, 2, 3, 4] bcast_S1x1x1x1x64_S16x2048x4x2x64_0_1_2_3_4 (broadcastInDim S1x1x1x1x64 ![4] bcast_S64_S1x1x1x1x64_4 (shapeCast _ g shapeCasts_S1x64_S64)))

/-- The angles. -/
def angA (a1 : IVec S16x2048 32) : FVec Ideal S16x2048x8 .f32 :=
  mulf (broadcastInDim S16x2048x8 ![0, 1, 2] bcast_S16x2048x1_S16x2048x8_0_1_2 (broadcastInDim S16x2048x1 ![0, 1] bcast_S16x2048_S16x2048x1_0_1 (sitofp .f32 a1))) (broadcastInDim S16x2048x8 ![0, 1, 2] bcast_S1x1x8_S16x2048x8_0_1_2 (broadcastInDim S1x1x8 ![2] bcast_S8_S1x1x8_2 (Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32))))))

/-- A table of the angles, at every head half. -/
def wideA (w : FVec Ideal S16x2048x8 .f32) : FVec Ideal S16x2048x4x2x8 .f32 :=
  broadcastInDim S16x2048x4x2x8 ![0, 1, 2, 3, 4] bcast_S16x2048x1x1x8_S16x2048x4x2x8_0_1_2_3_4 (broadcastInDim S16x2048x1x1x8 ![0, 1, 4] bcast_S16x2048x8_S16x2048x1x1x8_0_1_4 w)

/-- The rotary embedding of a head half's first sixteen lanes. -/
def rotA (n : FVec Ideal S16x2048x4x2x64 .f32) (w : FVec Ideal S16x2048x8 .f32) : FVec Ideal S16x2048x4x2x64 .f32 :=
  concatenate S16x2048x4x2x64 4
    [⟨S16x2048x4x2x8, (subf (mulf (extractStridedSlice S16x2048x4x2x8 ![0, 0, 0, 0, 0] n slices_S16x2048x4x2x64_S16x2048x4x2x8_0_0_0_0_0) (wideA (Host.cos w))) (mulf (extractStridedSlice S16x2048x4x2x8 ![0, 0, 0, 0, 8] n slices_S16x2048x4x2x64_S16x2048x4x2x8_0_0_0_0_8) (wideA (Host.sin w))) : FVec Ideal S16x2048x4x2x8 .f32)⟩,
     ⟨S16x2048x4x2x8, (addf (mulf (extractStridedSlice S16x2048x4x2x8 ![0, 0, 0, 0, 0] n slices_S16x2048x4x2x64_S16x2048x4x2x8_0_0_0_0_0) (wideA (Host.sin w))) (mulf (extractStridedSlice S16x2048x4x2x8 ![0, 0, 0, 0, 8] n slices_S16x2048x4x2x64_S16x2048x4x2x8_0_0_0_0_8) (wideA (Host.cos w))) : FVec Ideal S16x2048x4x2x8 .f32)⟩,
     ⟨S16x2048x4x2x48, (extractStridedSlice S16x2048x4x2x48 ![0, 0, 0, 0, 16] n slices_S16x2048x4x2x64_S16x2048x4x2x48_0_0_0_0_16 : FVec Ideal S16x2048x4x2x48 .f32)⟩] concatenates_S16x2048x4x2x8_S16x2048x4x2x8_S16x2048x4x2x48_S16x2048x4x2x64_d4

/-- Queries (scaled) beside keys. -/
def qkA (q k : FVec Ideal S16x2048x4x2x64 .f32) : FVec Ideal S32768x1024 .bf16 :=
  truncf .bf16 (concatenate S32768x1024 1 [⟨S32768x512, (shapeCast S32768x512 (mulf q (broadcastInDim S16x2048x4x2x64 ![] bcast_S_S16x2048x4x2x64 (constant S_ .f32 0x3E000000#32))) shapeCasts_S16x2048x4x2x64_S32768x512 : FVec Ideal S32768x512 .f32)⟩, ⟨S32768x512, (shapeCast S32768x512 k shapeCasts_S16x2048x4x2x64_S32768x512 : FVec Ideal S32768x512 .f32)⟩] concatenates_S32768x512_S32768x512_S32768x1024_d1) bitsLt_bf16_f32

/-- GELU. -/
def geluA (z : FVec Ideal S16x2048x512 .f32) : FVec Ideal S16x2048x512 .f32 :=
  mulf (mulf (broadcastInDim S16x2048x512 ![] bcast_S_S16x2048x512 (constant S_ .f32 0x3F000000#32)) z) (addf (broadcastInDim S16x2048x512 ![] bcast_S_S16x2048x512 (constant S_ .f32 0x3F800000#32)) (Host.erf (Host.divf z (broadcastInDim S16x2048x512 ![] bcast_S_S16x2048x512 (id (Host.sqrt (constant S_ .f32 0x40000000#32)))))))

/-- A row less its mean. -/
def ctrA (z : FVec Ideal S16x2048x512 .f32) : FVec Ideal S16x2048x512 .f32 :=
  subf z (broadcastInDim S16x2048x512 ![0, 1, 2] bcast_S16x2048x1_S16x2048x512_0_1_2 (Host.divf (broadcastInDim S16x2048x1 ![0, 1] bcast_S16x2048_S16x2048x1_0_1 (Host.reduceAdd z (constant S_ .f32 0x00000000#32) reducesTo_S16x2048x512_S16x2048_d2 h_S_)) (broadcastInDim S16x2048x1 ![] bcast_S_S16x2048x1 (constant S_ .f32 0x44000000#32))))

/-- The rest of the layer norm, of a row less its mean. -/
def lnA (z : FVec Ideal S16x2048x512 .f32) (g b : FVec Ideal S1x512 .f32) : FVec Ideal S16x2048x512 .f32 :=
  addf (mulf (mulf z (broadcastInDim S16x2048x512 ![0, 1, 2] bcast_S16x2048x1_S16x2048x512_0_1_2 (Host.rsqrt (addf (Host.divf (broadcastInDim S16x2048x1 ![0, 1] bcast_S16x2048_S16x2048x1_0_1 (Host.reduceAdd (mulf z z) (constant S_ .f32 0x00000000#32) reducesTo_S16x2048x512_S16x2048_d2 h_S_)) (broadcastInDim S16x2048x1 ![] bcast_S_S16x2048x1 (constant S_ .f32 0x44000000#32))) (broadcastInDim S16x2048x1 ![] bcast_S_S16x2048x1 (constant S_ .f32 0x358637BD#32)))))) (broadcastInDim S16x2048x512 ![0, 1, 2] bcast_S1x1x512_S16x2048x512_0_1_2 (broadcastInDim S1x1x512 ![2] bcast_S512_S1x1x512_2 (shapeCast _ g shapeCasts_S1x512_S512)))) (broadcastInDim S16x2048x512 ![0, 1, 2] bcast_S1x1x512_S16x2048x512_0_1_2 (broadcastInDim S1x1x512 ![2] bcast_S512_S1x1x512_2 (shapeCast _ b shapeCasts_S1x512_S512)))

/-- The projection's last three parts. -/
def partV (p : FVec Ideal S16x2048x2560 .f32) : FVec Ideal S16x2048x512 .f32 := extractStridedSlice S16x2048x512 ![0, 0, 1024] p slices_S16x2048x2560_S16x2048x512_0_0_1024
def partU (p : FVec Ideal S16x2048x2560 .f32) : FVec Ideal S16x2048x512 .f32 := extractStridedSlice S16x2048x512 ![0, 0, 1536] p slices_S16x2048x2560_S16x2048x512_0_0_1536
def partS (p : FVec Ideal S16x2048x2560 .f32) : FVec Ideal S16x2048x512 .f32 := extractStridedSlice S16x2048x512 ![0, 0, 2048] p slices_S16x2048x2560_S16x2048x512_0_0_2048

/-- Batch and position as one row. -/
def flatA (z : FVec Ideal S16x2048x512 .f32) : FVec Ideal S32768x512 .bf16 := truncf .bf16 (shapeCast _ z shapeCasts_S16x2048x512_S32768x512) bitsLt_bf16_f32

variable (m : (ℓ : Loc nD τ sig) → Buf (Elt Ideal) ℓ) (c : Dev nD)

/-- The reference's projection. -/
def projR : FVec Ideal S16x2048x2560 .f32 := projA (m (c.tc.loc main_arg0)) (m (c.tc.loc main_arg2)) (m (c.tc.loc main_arg3))

/-- The reference's first and last results, composed of these. -/
theorem res_qk : (res_out0 m c : FVec Ideal S32768x1024 .bf16)
    = qkA (rotA (normA (headQ (projR m c)) (m (c.tc.loc main_arg4))) (angA (m (c.tc.loc main_arg1))))
        (rotA (normA (headK (projR m c)) (m (c.tc.loc main_arg5))) (angA (m (c.tc.loc main_arg1)))) := by
  unfold res_out0 res_main_v148 qkA rotA wideA angA normA headQ headK projR projA
  rfl

theorem res_n : (res_out3 m c : FVec Ideal S32768x512 .bf16)
    = flatA (lnA (ctrA (geluA (partS (projR m c)))) (m (c.tc.loc main_arg6)) (m (c.tc.loc main_arg7))) := by
  unfold res_out3 res_main_v154 flatA lnA ctrA geluA partS projR projA
  rfl

/-! ## At an index -/

theorem projA_apply (a0 : FVec Ideal S16x2048x1024 .f32) (a2 : FVec Ideal S1x1024 .f32) (a3 : FVec Ideal S1x1024x2560 .f32) (b : Fin 16) (x : Fin 2048) (n : Fin 2560) :
    projA a0 a2 a3 (ix3 b x n)
      = ∑ k : Fin 1024, (a0 (ix3 b x k) * Ideal.rsqrt (Ideal.div (∑ w : Fin 1024, a0 (ix3 b x w) * a0 (ix3 b x w)) (Ideal.ofBits .f32 0x44800000#32) + Ideal.ofBits .f32 0x358637BD#32) * a2 (ix2 0 k)) * a3 (ix3 0 k n) := by
  unfold projA
  pointwise

theorem headQ_apply (p : FVec Ideal S16x2048x2560 .f32) (b : Fin 16) (x : Fin 2048) (h : Fin 4) (e : Fin 2) (d : Fin 64) :
    headQ p (ix5 b x h e d) = p (ix3 b x ⟨h.1 * 128 + e.1 * 64 + d.1, by omega⟩) := by
  unfold headQ
  pointwise

theorem headK_apply (p : FVec Ideal S16x2048x2560 .f32) (b : Fin 16) (x : Fin 2048) (h : Fin 4) (e : Fin 2) (d : Fin 64) :
    headK p (ix5 b x h e d) = p (ix3 b x ⟨512 + (h.1 * 128 + e.1 * 64 + d.1), by omega⟩) := by
  unfold headK
  pointwise

theorem normA_apply (z : FVec Ideal S16x2048x4x2x64 .f32) (g : FVec Ideal S1x64 .f32) (b : Fin 16) (x : Fin 2048) (h : Fin 4) (e : Fin 2) (d : Fin 64) :
    normA z g (ix5 b x h e d)
      = z (ix5 b x h e d) * Ideal.rsqrt (Ideal.div (∑ w : Fin 64, z (ix5 b x h e w) * z (ix5 b x h e w)) (Ideal.ofBits .f32 0x42800000#32) + Ideal.ofBits .f32 0x358637BD#32) * g (ix2 0 d) := by
  unfold normA
  pointwise

/-- The frequency of a pair of lanes. -/
def freq (k : Fin 8) : EReal :=
  Ideal.pow (Ideal.ofBits .f32 0x48F42400#32) (Ideal.div (-(Ideal.ofBits .f32 0x40000000#32 * FloatOps.sitofp (F := Ideal) .f32 (BitVec.ofNat 32 k.1))) (Ideal.ofBits .f32 0x41800000#32))

theorem angA_apply (a1 : IVec S16x2048 32) (b : Fin 16) (x : Fin 2048) (k : Fin 8) :
    angA a1 (ix3 b x k) = FloatOps.sitofp (F := Ideal) .f32 (a1 (ix2 b x)) * freq k := by
  unfold angA
  pointwise
  rfl

theorem rotA_lo (n : FVec Ideal S16x2048x4x2x64 .f32) (w : FVec Ideal S16x2048x8 .f32) (b : Fin 16) (x : Fin 2048) (h : Fin 4) (e : Fin 2) (d : Fin 8) :
    rotA n w (ix5 b x h e ⟨d.1, by omega⟩)
      = n (ix5 b x h e ⟨d.1, by omega⟩) * Ideal.cos (w (ix3 b x d)) - n (ix5 b x h e ⟨8 + d.1, by omega⟩) * Ideal.sin (w (ix3 b x d)) := by
  unfold rotA wideA
  pointwise

theorem rotA_hi (n : FVec Ideal S16x2048x4x2x64 .f32) (w : FVec Ideal S16x2048x8 .f32) (b : Fin 16) (x : Fin 2048) (h : Fin 4) (e : Fin 2) (d : Fin 8) :
    rotA n w (ix5 b x h e ⟨8 + d.1, by omega⟩)
      = n (ix5 b x h e ⟨d.1, by omega⟩) * Ideal.sin (w (ix3 b x d)) + n (ix5 b x h e ⟨8 + d.1, by omega⟩) * Ideal.cos (w (ix3 b x d)) := by
  unfold rotA wideA
  pointwise

theorem rotA_rest (n : FVec Ideal S16x2048x4x2x64 .f32) (w : FVec Ideal S16x2048x8 .f32) (b : Fin 16) (x : Fin 2048) (h : Fin 4) (e : Fin 2) (d : Fin 48) :
    rotA n w (ix5 b x h e ⟨16 + d.1, by omega⟩) = n (ix5 b x h e ⟨16 + d.1, by omega⟩) := by
  unfold rotA wideA
  pointwise
  rw [dif_neg (by omega), dif_neg (by omega)]
  congr 2
  exact Fin.ext (by dsimp only; omega)

theorem qkA_q (q k : FVec Ideal S16x2048x4x2x64 .f32) (r : Fin 32768) (h : Fin 4) (e : Fin 2) (d : Fin 64) :
    qkA q k (ix2 r ⟨h.1 * 128 + e.1 * 64 + d.1, by omega⟩) = q (ix5 ⟨r.1 / 2048, by omega⟩ ⟨r.1 % 2048, by omega⟩ h e d) * Ideal.ofBits .f32 0x3E000000#32 := by
  unfold qkA
  pointwise
  rw [dif_pos (by omega)]

theorem qkA_k (q k : FVec Ideal S16x2048x4x2x64 .f32) (r : Fin 32768) (h : Fin 4) (e : Fin 2) (d : Fin 64) :
    qkA q k (ix2 r ⟨512 + (h.1 * 128 + e.1 * 64 + d.1), by omega⟩) = k (ix5 ⟨r.1 / 2048, by omega⟩ ⟨r.1 % 2048, by omega⟩ h e d) := by
  unfold qkA
  pointwise

/-- GELU of a number, as the reference spells it. -/
def gelu (z : EReal) : EReal :=
  Ideal.ofBits .f32 0x3F000000#32 * z * (1 + (FloatOps.erf (F := Ideal) (φ := .f32) (Ideal.div z (Ideal.sqrt (Ideal.ofBits .f32 0x40000000#32))) : EReal))

theorem geluA_apply (z : FVec Ideal S16x2048x512 .f32) (b : Fin 16) (x : Fin 2048) (n : Fin 512) : geluA z (ix3 b x n) = gelu (z (ix3 b x n)) := by
  unfold geluA
  pointwise
  rfl

theorem ctrA_apply (z : FVec Ideal S16x2048x512 .f32) (b : Fin 16) (x : Fin 2048) (n : Fin 512) :
    ctrA z (ix3 b x n) = z (ix3 b x n) - Ideal.div (∑ w : Fin 512, z (ix3 b x w)) (Ideal.ofBits .f32 0x44000000#32) := by
  unfold ctrA
  pointwise

theorem lnA_apply (z : FVec Ideal S16x2048x512 .f32) (g g' : FVec Ideal S1x512 .f32) (b : Fin 16) (x : Fin 2048) (n : Fin 512) :
    lnA z g g' (ix3 b x n)
      = z (ix3 b x n) * Ideal.rsqrt (Ideal.div (∑ w : Fin 512, z (ix3 b x w) * z (ix3 b x w)) (Ideal.ofBits .f32 0x44000000#32) + Ideal.ofBits .f32 0x358637BD#32) * g (ix2 0 n) + g' (ix2 0 n) := by
  unfold lnA
  pointwise

theorem partV_apply (p : FVec Ideal S16x2048x2560 .f32) (b : Fin 16) (x : Fin 2048) (n : Fin 512) : partV p (ix3 b x n) = p (ix3 b x ⟨1024 + n.1, by omega⟩) := by
  unfold partV
  pointwise
theorem partU_apply (p : FVec Ideal S16x2048x2560 .f32) (b : Fin 16) (x : Fin 2048) (n : Fin 512) : partU p (ix3 b x n) = p (ix3 b x ⟨1536 + n.1, by omega⟩) := by
  unfold partU
  pointwise
theorem partS_apply (p : FVec Ideal S16x2048x2560 .f32) (b : Fin 16) (x : Fin 2048) (n : Fin 512) : partS p (ix3 b x n) = p (ix3 b x ⟨2048 + n.1, by omega⟩) := by
  unfold partS
  pointwise

theorem flatA_apply (z : FVec Ideal S16x2048x512 .f32) (r : Fin 32768) (n : Fin 512) :
    flatA z (ix2 r n) = z (ix3 ⟨r.1 / 2048, by omega⟩ ⟨r.1 % 2048, by omega⟩ n) := by
  unfold flatA
  pointwise

end Cert.Reference2Ideal.Hand

end
-- ==== Proof.Projection.lean ====
/- The input projection's four results are the reference's, on any input. The expanded tables are read off: a sum against a row of
   the unit matrix leaves one cosine or sine, and the second sum, of the differences of real numbers with themselves, vanishes.
   The sum against the block of ones is the sum over a head half, the scale of the queries moves out of the rotation. -/
module

public import proofs.«01_k».proof.Proof.ProjectionArray
public import proofs.«01_k».proof.Proof.ProjectionReference

@[expose] public section

set_option maxRecDepth 16384

noncomputable section

namespace Cert.Kernel2Ideal.Hand

open Idealize.ShloMosaic Idealize.ShloMosaic.TcCoe Cert.Kernel2Ideal Cert.Kernel2Ideal.Gen Cert.Reference2Ideal.Hand

/-! ## Constants -/

theorem c_64 : Ideal.ofBits .f32 0x42800000#32 = ((64 : ℝ) : EReal) := by
  simp only [Ideal.ofBits, Ideal.ieee]; simp; rw [← EReal.coe_mul]; congr 1; norm_num
theorem c_inv64 : Ideal.ofBits .f32 0x3C800000#32 = ((64⁻¹ : ℝ) : EReal) := by
  simp only [Ideal.ofBits, Ideal.ieee]; simp; rw [← EReal.coe_mul]; congr 1; norm_num
theorem c_16 : Ideal.ofBits .f32 0x41800000#32 = ((16 : ℝ) : EReal) := by
  simp only [Ideal.ofBits, Ideal.ieee]; simp; rw [← EReal.coe_mul]; congr 1; norm_num
theorem c_2 : Ideal.ofBits .f32 0x40000000#32 = ((2 : ℝ) : EReal) := by
  simp only [Ideal.ofBits, Ideal.ieee]; simp; rw [← EReal.coe_mul]; congr 1; norm_num
theorem c_scale : Ideal.ofBits .f32 0x3E000000#32 = ((8⁻¹ : ℝ) : EReal) := by
  simp only [Ideal.ofBits, Ideal.ieee]; simp; rw [← EReal.coe_mul]; congr 1; norm_num
theorem c_base : ∃ r : ℝ, Ideal.ofBits .f32 0x48F42400#32 = (r : EReal) := ⟨_, by simp [Ideal.ofBits, Ideal.ieee]; rfl⟩

theorem div_real (a : EReal) (b : ℝ) (hb : b ≠ 0) : Ideal.div a (b : EReal) = a * ((b⁻¹ : ℝ) : EReal) := by
  unfold Ideal.div
  rw [if_neg (by exact_mod_cast hb), ← EReal.coe_inv]

/-- The frequencies are real numbers. -/
theorem freq_real (k : Fin 8) : ∃ r : ℝ, Cert.Kernel2Ideal.Hand.freq k = (r : EReal) := by
  obtain ⟨b, hb⟩ := c_base
  unfold Cert.Kernel2Ideal.Hand.freq
  rw [hb, c_2, c_16, div_real _ _ (by norm_num)]
  have e : (FloatOps.sitofp (F := Ideal) .f32 (BitVec.ofNat 32 k.1) : EReal) = (((BitVec.ofNat 32 k.1).toInt : ℝ) : EReal) := rfl
  rw [e, ← EReal.coe_mul, ← EReal.coe_neg, ← EReal.coe_mul]
  exact ⟨_, rfl⟩

/-- Both spell GELU alike. -/
theorem gelu_eq (z : EReal) : Cert.Kernel2Ideal.Hand.gelu z = Cert.Reference2Ideal.Hand.gelu z := by
  unfold Cert.Kernel2Ideal.Hand.gelu Cert.Reference2Ideal.Hand.gelu
  have e : (Named.named (F := Ideal) (φ := .f32) κ "rsqrt2" 0x3F3504F3#32 : EReal) = (((Real.sqrt 2)⁻¹ : ℝ) : EReal) :=
    IdealRules.named_const.ideal_named_scalar _ _ _ _ rfl
  have e2 : Ideal.sqrt (Ideal.ofBits .f32 0x40000000#32) = ((Real.sqrt 2 : ℝ) : EReal) := by
    rw [c_2]
    show (if (2 : ℝ) < 0 then (⊥ : EReal) else (Real.sqrt 2 : EReal)) = _
    rw [if_neg (by norm_num)]
  rw [e, e2, div_real _ _ (by positivity)]

/-! ## The tables -/

theorem csR_real (p : ℝ) (x5 : Vec Ideal S8x1 .f32) (h5 : ∀ k, ∃ r : ℝ, x5 (ix2 k 0) = (r : EReal)) (k : Fin 32) :
    ∃ r : ℝ, csR (p : EReal) x5 k = (r : EReal) := by
  unfold csR
  split
  · next h =>
    obtain ⟨r, hr⟩ := h5 ⟨k.1, h⟩
    rw [hr, ← EReal.coe_mul]
    exact ⟨_, rfl⟩
  · split
    · next h =>
      obtain ⟨r, hr⟩ := h5 ⟨k.1 - 8, h⟩
      rw [hr, ← EReal.coe_mul]
      exact ⟨_, rfl⟩
    · split
      · exact ⟨1, rfl⟩
      · exact ⟨0, rfl⟩

theorem tabR_eq (p : ℝ) (x5 : Vec Ideal S8x1 .f32) (h5 : ∀ k, ∃ r : ℝ, x5 (ix2 k 0) = (r : EReal)) (x6 : Vec Ideal S32x384 .bf16) (n : Fin 384) :
    tabR (p : EReal) x5 x6 n = (∑ k : Fin 32, csR (p : EReal) x5 k * x6 (ix2 k n) : EReal) := by
  unfold tabR
  rw [Finset.sum_eq_zero (f := fun k : Fin 32 => (csR (p : EReal) x5 k - csR (p : EReal) x5 k) * x6 (ix2 k n)), add_zero]
  intro k _
  obtain ⟨r, hr⟩ := csR_real p x5 h5 k
  rw [hr, ← EReal.coe_sub, sub_self, EReal.coe_zero, zero_mul]

theorem sum_unit (f u : Fin 32 → EReal) (k0 : Fin 32) (h0 : u k0 = 1) (h : ∀ k, k ≠ k0 → u k = 0) : (∑ k, f k * u k : EReal) = f k0 := by
  rw [Finset.sum_eq_single k0 (fun k _ hk => by rw [h k hk, mul_zero]) (fun hk => absurd (Finset.mem_univ _) hk), h0, mul_one]

theorem sum_neg_unit (f u : Fin 32 → EReal) (k0 : Fin 32) (h0 : u k0 = -1) (h : ∀ k, k ≠ k0 → u k = 0) : (∑ k, f k * u k : EReal) = -f k0 := by
  rw [Finset.sum_eq_single k0 (fun k _ hk => by rw [h k hk, mul_zero]) (fun hk => absurd (Finset.mem_univ _) hk), h0, mul_neg, mul_one]

theorem sum_none (f u : Fin 32 → EReal) (h : ∀ k, u k = 0) : (∑ k, f k * u k : EReal) = 0 :=
  Finset.sum_eq_zero fun k _ => by rw [h k, mul_zero]

variable (m : (ℓ : Loc nD τ sig) → Buf (Elt Ideal) ℓ) (c : Dev nD)

theorem inF_real (k : Fin 8) : ∃ r : ℝ, inF m c (ix2 k 0) = (r : EReal) := by
  rw [inF_apply]
  exact freq_real k

theorem tab_cos (p : ℝ) (l : Fin 128) (d : Fin 8) (h : l.1 % 64 < 16) (hd : l.1 % 8 = d.1) :
    tabR (p : EReal) (inF m c) (inE m c) ⟨l.1, by omega⟩ = Ideal.cos ((p : EReal) * Cert.Kernel2Ideal.Hand.freq d) := by
  rw [tabR_eq p _ (inF_real m c), sum_unit _ _ ⟨d.1, by omega⟩]
  · unfold csR
    rw [dif_pos (show (⟨d.1, by omega⟩ : Fin 32).1 < 8 from d.2), inF_apply, mul_comm]
  · rw [inE_c, v45_apply, if_pos h, if_pos hd.symm]
  · intro k hk
    rw [inE_c, v45_apply, if_pos h, if_neg]
    exact fun e => hk (Fin.ext (e.trans hd))

theorem tab_one (p : ℝ) (l : Fin 128) (h : ¬ l.1 % 64 < 16) : tabR (p : EReal) (inF m c) (inE m c) ⟨l.1, by omega⟩ = 1 := by
  rw [tabR_eq p _ (inF_real m c), sum_unit _ _ ⟨16, by omega⟩]
  · rfl
  · rw [inE_c, v45_apply, if_neg h, if_pos rfl]
  · intro k hk
    rw [inE_c, v45_apply, if_neg h, if_neg]
    exact fun e => hk (Fin.ext e)

theorem tab_neg (p : ℝ) (l : Fin 128) (d : Fin 8) (hd : l.1 % 64 = d.1) :
    tabR (p : EReal) (inF m c) (inE m c) ⟨128 + l.1, by omega⟩ = -Ideal.sin ((p : EReal) * Cert.Kernel2Ideal.Hand.freq d) := by
  rw [tabR_eq p _ (inF_real m c), sum_neg_unit _ _ ⟨8 + d.1, by omega⟩]
  · unfold csR
    rw [dif_neg (show ¬ 8 + d.1 < 8 by omega), dif_pos (show 8 + d.1 - 8 < 8 by omega)]
    have e : (⟨8 + d.1 - 8, by omega⟩ : Fin 8) = d := Fin.ext (by show 8 + d.1 - 8 = d.1; omega)
    rw [e, inF_apply, mul_comm]
  · rw [inE_a, v47_apply, if_pos ⟨by omega, by show 8 + d.1 = 8 + l.1 % 64; omega⟩]
  · intro k hk
    rw [inE_a, v47_apply, if_neg, neg_zero]
    exact fun e => hk (Fin.ext (by show k.1 = 8 + d.1; omega))

theorem tab_neg_zero (p : ℝ) (l : Fin 128) (h : ¬ l.1 % 64 < 8) : tabR (p : EReal) (inF m c) (inE m c) ⟨128 + l.1, by omega⟩ = 0 := by
  rw [tabR_eq p _ (inF_real m c), sum_none]
  intro k
  rw [inE_a, v47_apply, if_neg (fun e => h e.1), neg_zero]

theorem tab_sin (p : ℝ) (l : Fin 128) (d : Fin 8) (hd : l.1 % 64 = 8 + d.1) :
    tabR (p : EReal) (inF m c) (inE m c) ⟨256 + l.1, by omega⟩ = Ideal.sin ((p : EReal) * Cert.Kernel2Ideal.Hand.freq d) := by
  rw [tabR_eq p _ (inF_real m c), sum_unit _ _ ⟨8 + d.1, by omega⟩]
  · unfold csR
    rw [dif_neg (show ¬ 8 + d.1 < 8 by omega), dif_pos (show 8 + d.1 - 8 < 8 by omega)]
    have e : (⟨8 + d.1 - 8, by omega⟩ : Fin 8) = d := Fin.ext (by show 8 + d.1 - 8 = d.1; omega)
    rw [e, inF_apply, mul_comm]
  · rw [inE_b, v48_apply, if_pos ⟨by omega, by omega, by show 8 + d.1 = l.1 % 64; omega⟩]
  · intro k hk
    rw [inE_b, v48_apply, if_neg]
    exact fun e => hk (Fin.ext (by show k.1 = 8 + d.1; omega))

theorem tab_sin_zero (p : ℝ) (l : Fin 128) (h : ¬ (8 ≤ l.1 % 64 ∧ l.1 % 64 < 16)) : tabR (p : EReal) (inF m c) (inE m c) ⟨256 + l.1, by omega⟩ = 0 := by
  rw [tabR_eq p _ (inF_real m c), sum_none]
  intro k
  rw [inE_b, v48_apply, if_neg (fun e => h ⟨e.1, e.2.1⟩)]

/-! ## The rotation -/

theorem rotR_lo (f : Fin 2560 → EReal) (x3 : Vec Ideal S1x1024 .f32) (p : ℝ) (x7 : Vec Ideal S256x256 .bf16) (n n' : Fin 1024) (d : Fin 8)
    (hd : n.1 % 64 = d.1) (hn : n'.1 = n.1 + 8) :
    rotR f x3 (p : EReal) (inF m c) (inE m c) x7 n
      = normR f x3 x7 n * Ideal.cos ((p : EReal) * Cert.Kernel2Ideal.Hand.freq d) - normR f x3 x7 n' * Ideal.sin ((p : EReal) * Cert.Kernel2Ideal.Hand.freq d) := by
  have e1 : (⟨n.1 / 128 * 128 + n.1 % 128, by omega⟩ : Fin 1024) = n := Fin.ext (by show n.1 / 128 * 128 + n.1 % 128 = n.1; omega)
  have e2 : (⟨n.1 / 128 * 128 + (n.1 % 128 + 128 - 120) % 128, by omega⟩ : Fin 1024) = n' := Fin.ext (by show n.1 / 128 * 128 + (n.1 % 128 + 128 - 120) % 128 = n'.1; omega)
  unfold rotR
  rw [e1, e2, tab_cos m c p ⟨n.1 % 128, by omega⟩ d (by dsimp only; omega) (by dsimp only; omega), tab_neg m c p ⟨n.1 % 128, by omega⟩ d (by dsimp only; omega),
    tab_sin_zero m c p ⟨n.1 % 128, by omega⟩ (by dsimp only; omega), mul_zero, add_zero, mul_neg, ← sub_eq_add_neg]

theorem rotR_hi (f : Fin 2560 → EReal) (x3 : Vec Ideal S1x1024 .f32) (p : ℝ) (x7 : Vec Ideal S256x256 .bf16) (n n' : Fin 1024) (d : Fin 8)
    (hd : n.1 % 64 = 8 + d.1) (hn : n.1 = n'.1 + 8) :
    rotR f x3 (p : EReal) (inF m c) (inE m c) x7 n
      = normR f x3 x7 n' * Ideal.sin ((p : EReal) * Cert.Kernel2Ideal.Hand.freq d) + normR f x3 x7 n * Ideal.cos ((p : EReal) * Cert.Kernel2Ideal.Hand.freq d) := by
  have e1 : (⟨n.1 / 128 * 128 + n.1 % 128, by omega⟩ : Fin 1024) = n := Fin.ext (by show n.1 / 128 * 128 + n.1 % 128 = n.1; omega)
  have e2 : (⟨n.1 / 128 * 128 + (n.1 % 128 + 128 - 8) % 128, by omega⟩ : Fin 1024) = n' := Fin.ext (by show n.1 / 128 * 128 + (n.1 % 128 + 128 - 8) % 128 = n'.1; omega)
  unfold rotR
  rw [e1, e2, tab_cos m c p ⟨n.1 % 128, by omega⟩ d (by dsimp only; omega) (by dsimp only; omega), tab_neg_zero m c p ⟨n.1 % 128, by omega⟩ (by dsimp only; omega),
    tab_sin m c p ⟨n.1 % 128, by omega⟩ d (by dsimp only; omega), mul_zero, add_zero, add_comm]

theorem rotR_rest (f : Fin 2560 → EReal) (x3 : Vec Ideal S1x1024 .f32) (p : ℝ) (x7 : Vec Ideal S256x256 .bf16) (n : Fin 1024) (hd : ¬ n.1 % 64 < 16) :
    rotR f x3 (p : EReal) (inF m c) (inE m c) x7 n = normR f x3 x7 n := by
  have e1 : (⟨n.1 / 128 * 128 + n.1 % 128, by omega⟩ : Fin 1024) = n := Fin.ext (by show n.1 / 128 * 128 + n.1 % 128 = n.1; omega)
  unfold rotR
  rw [e1, tab_one m c p ⟨n.1 % 128, by omega⟩ (by dsimp only; omega), tab_neg_zero m c p ⟨n.1 % 128, by omega⟩ (by dsimp only; omega),
    tab_sin_zero m c p ⟨n.1 % 128, by omega⟩ (by dsimp only; omega), mul_zero, mul_zero, add_zero, add_zero, mul_one]

/-! ## The norm of a head half -/

/-- A sum over four heads' halves that vanishes off one of them. -/
theorem sum_half (g : Fin 256 → EReal) (q : ℕ) (hq : q < 4) (h : ∀ k : Fin 256, k.1 / 64 ≠ q → g k = 0) :
    (∑ k, g k : EReal) = ∑ w : Fin 64, g ⟨q * 64 + w.1, by omega⟩ := by
  set G : ℕ → EReal := fun k => if hk : k < 256 then g ⟨k, hk⟩ else 0 with hG
  have e1 : (∑ k, g k : EReal) = ∑ k ∈ Finset.range 256, G k := by
    rw [Finset.sum_range]; exact Finset.sum_congr rfl fun k _ => by simp [hG]
  have e2 : (∑ w : Fin 64, g ⟨q * 64 + w.1, by omega⟩ : EReal) = ∑ w ∈ Finset.range 64, G (q * 64 + w) := by
    rw [Finset.sum_range]
    exact Finset.sum_congr rfl fun w _ => by simp only [hG]; rw [dif_pos (by omega)]
  have hz : ∀ k, k / 64 ≠ q → G k = 0 := fun k hk => by
    simp only [hG]
    split
    · exact h _ hk
    · rfl
  have e3 : (256 : ℕ) = q * 64 + 64 + (256 - (q * 64 + 64)) := by omega
  rw [e1, e2, e3, Finset.sum_range_add, Finset.sum_range_add, Finset.sum_eq_zero (s := Finset.range (q * 64)),
    Finset.sum_eq_zero (s := Finset.range (256 - (q * 64 + 64))), add_zero, zero_add]
  · intro k _
    exact hz _ (by omega)
  · intro k hk
    have := Finset.mem_range.1 hk
    exact hz _ (by omega)

/-- An entry of a row over the root mean square of its head half. -/
def unitR (f : Fin 2560 → EReal) (n : Fin 1024) : EReal :=
  f ⟨n.1, by omega⟩ * Ideal.rsqrt (Ideal.div (∑ w : Fin 64, f ⟨n.1 / 64 * 64 + w.1, by omega⟩ * f ⟨n.1 / 64 * 64 + w.1, by omega⟩) (Ideal.ofBits .f32 0x42800000#32) + Ideal.ofBits .f32 0x358637BD#32)

theorem normR_eq (f : Fin 2560 → EReal) (x3 : Vec Ideal S1x1024 .f32) (n : Fin 1024) :
    normR f x3 (inO m c) n = unitR f n * x3 (ix2 0 n) := by
  unfold normR unitR sumsR
  rw [c_64, c_inv64, div_real _ _ (by norm_num)]
  rw [sum_half _ (n.1 % 256 / 64) (by omega)]
  · have es : ∀ w : Fin 64, f ⟨n.1 / 256 * 256 + (n.1 % 256 / 64 * 64 + w.1), by omega⟩ * f ⟨n.1 / 256 * 256 + (n.1 % 256 / 64 * 64 + w.1), by omega⟩
        * inO m c (ix2 ⟨n.1 % 256 / 64 * 64 + w.1, by omega⟩ ⟨n.1 % 256, by omega⟩) = f ⟨n.1 / 64 * 64 + w.1, by omega⟩ * f ⟨n.1 / 64 * 64 + w.1, by omega⟩ := by
      intro w
      have e : (⟨n.1 / 256 * 256 + (n.1 % 256 / 64 * 64 + w.1), by omega⟩ : Fin 2560) = ⟨n.1 / 64 * 64 + w.1, by omega⟩ :=
        Fin.ext (by show n.1 / 256 * 256 + (n.1 % 256 / 64 * 64 + w.1) = n.1 / 64 * 64 + w.1; omega)
      rw [inO_apply, if_pos (by dsimp only; omega), mul_one, e]
    simp only [es]
  · intro k hk
    rw [inO_apply, if_neg hk, mul_zero]

/-! ## The projection -/

theorem inX_row (r : Fin 32768) (k : Fin 1024) : inX m c (ix2 r k) = argX m c (ix3 ⟨r.1 / 2048, by omega⟩ ⟨r.1 % 2048, by omega⟩ k) := by
  rw [← inX_apply m c ⟨r.1 / 2048, by omega⟩ ⟨r.1 % 2048, by omega⟩ k]
  have e : r = (⟨r.1 / 2048 * 2048 + r.1 % 2048, by omega⟩ : Fin 32768) := Fin.ext (by show r.1 = r.1 / 2048 * 2048 + r.1 % 2048; omega)
  exact congrArg (fun r => inX m c (ix2 r k)) e

theorem inP_row (r : Fin 32768) : inP m c (ix3 ⟨r.1 / 512, by omega⟩ 0 ⟨r.1 % 512, by omega⟩)
    = FloatOps.sitofp (F := Ideal) .f32 (argPos m c (ix2 ⟨r.1 / 2048, by omega⟩ ⟨r.1 % 2048, by omega⟩)) := by
  rw [← inP_apply m c ⟨r.1 / 2048, by omega⟩ ⟨r.1 % 2048, by omega⟩]
  have e1 : (⟨r.1 / 512, by omega⟩ : Fin 64) = ⟨r.1 / 2048 * 4 + r.1 % 2048 / 512, by omega⟩ := Fin.ext (by show r.1 / 512 = r.1 / 2048 * 4 + r.1 % 2048 / 512; omega)
  have e2 : (⟨r.1 % 512, by omega⟩ : Fin 512) = ⟨r.1 % 2048 % 512, by omega⟩ := Fin.ext (by show r.1 % 512 = r.1 % 2048 % 512; omega)
  rw [e1, e2]

/-- The reference's projection of the kernel's arguments. -/
def projK : FVec Ideal Cert.Reference2Ideal.S16x2048x2560 .f32 := projA (argX m c) (argN m c) (argW m c)

theorem projX_eq (r : Fin 32768) (n : Fin 2560) : projX m c r n = projK m c (ix3 ⟨r.1 / 2048, by omega⟩ ⟨r.1 % 2048, by omega⟩ n) := by
  unfold projK projX normX
  rw [projA_apply]
  simp only [inX_row, inN_apply, inW_apply]

theorem normQ_eq (r : Fin 32768) (h : Fin 4) (e : Fin 2) (d : Fin 64) (g : FVec Ideal Cert.Reference2Ideal.S1x64 .f32) :
    normA (headQ (projK m c)) g (ix5 ⟨r.1 / 2048, by omega⟩ ⟨r.1 % 2048, by omega⟩ h e d)
      = unitR (projX m c r) ⟨h.1 * 128 + e.1 * 64 + d.1, by omega⟩ * g (ix2 0 d) := by
  rw [normA_apply]
  unfold unitR
  simp only [headQ_apply, projX_eq]
  have e0 : (h.1 * 128 + e.1 * 64 + d.1) / 64 * 64 = h.1 * 128 + e.1 * 64 := by omega
  simp only [e0]

theorem normK_eq (r : Fin 32768) (h : Fin 4) (e : Fin 2) (d : Fin 64) (g : FVec Ideal Cert.Reference2Ideal.S1x64 .f32) :
    normA (headK (projK m c)) g (ix5 ⟨r.1 / 2048, by omega⟩ ⟨r.1 % 2048, by omega⟩ h e d)
      = unitR (projX m c r) ⟨512 + (h.1 * 128 + e.1 * 64 + d.1), by omega⟩ * g (ix2 0 d) := by
  rw [normA_apply]
  unfold unitR
  simp only [headK_apply, projX_eq]
  have e0 : (512 + (h.1 * 128 + e.1 * 64 + d.1)) / 64 * 64 = 512 + (h.1 * 128 + e.1 * 64) := by omega
  simp only [e0]
  simp only [add_assoc]

theorem gain_q (h : Fin 4) (e : Fin 2) (d : Fin 64) :
    inG m c (ix2 0 ⟨h.1 * 128 + e.1 * 64 + d.1, by omega⟩) = argGq m c (ix2 0 d) * Ideal.ofBits .f32 0x3E000000#32 := by
  have := inG_q m c ⟨h.1 * 128 + e.1 * 64 + d.1, by omega⟩
  have e1 : (⟨(h.1 * 128 + e.1 * 64 + d.1) % 64, by omega⟩ : Fin 64) = d := Fin.ext (by show (h.1 * 128 + e.1 * 64 + d.1) % 64 = d.1; omega)
  exact this.trans (by rw [e1])

theorem gain_k (h : Fin 4) (e : Fin 2) (d : Fin 64) :
    inG m c (ix2 0 ⟨512 + (h.1 * 128 + e.1 * 64 + d.1), by omega⟩) = argGk m c (ix2 0 d) := by
  have := inG_k m c ⟨h.1 * 128 + e.1 * 64 + d.1, by omega⟩
  have e1 : (⟨(h.1 * 128 + e.1 * 64 + d.1) % 64, by omega⟩ : Fin 64) = d := Fin.ext (by show (h.1 * 128 + e.1 * 64 + d.1) % 64 = d.1; omega)
  exact this.trans (by rw [e1])

/-- A normed query entry as the kernel has it is the reference's, scaled. -/
theorem kernelQ (r : Fin 32768) (h : Fin 4) (e : Fin 2) (d : Fin 64) :
    normR (projX m c r) (inG m c) (inO m c) ⟨h.1 * 128 + e.1 * 64 + d.1, by omega⟩
      = normA (headQ (projK m c)) (argGq m c) (ix5 ⟨r.1 / 2048, by omega⟩ ⟨r.1 % 2048, by omega⟩ h e d) * Ideal.ofBits .f32 0x3E000000#32 := by
  rw [normR_eq, gain_q, normQ_eq, mul_assoc]

theorem kernelK (r : Fin 32768) (h : Fin 4) (e : Fin 2) (d : Fin 64) :
    normR (projX m c r) (inG m c) (inO m c) ⟨512 + (h.1 * 128 + e.1 * 64 + d.1), by omega⟩
      = normA (headK (projK m c)) (argGk m c) (ix5 ⟨r.1 / 2048, by omega⟩ ⟨r.1 % 2048, by omega⟩ h e d) := by
  rw [normR_eq, gain_k, normK_eq]

/-- A nonnegative real factor moves out of a sum or a difference of products. -/
theorem scale_sub (a b x y : EReal) (s : ℝ) (hs : 0 ≤ s) : a * (s : EReal) * x - b * (s : EReal) * y = (a * x - b * y) * (s : EReal) := by
  rw [sub_eq_add_neg, sub_eq_add_neg, EReal.right_distrib_of_nonneg_of_ne_top (by exact_mod_cast hs) (EReal.coe_ne_top s), EReal.neg_mul,
    mul_right_comm a, mul_right_comm b]
theorem scale_add (a b x y : EReal) (s : ℝ) (hs : 0 ≤ s) : a * (s : EReal) * x + b * (s : EReal) * y = (a * x + b * y) * (s : EReal) := by
  rw [EReal.right_distrib_of_nonneg_of_ne_top (by exact_mod_cast hs) (EReal.coe_ne_top s), mul_right_comm a, mul_right_comm b]

theorem pos_real (r : Fin 32768) : ∃ p : ℝ, inP m c (ix3 ⟨r.1 / 512, by omega⟩ 0 ⟨r.1 % 512, by omega⟩) = (p : EReal)
    ∧ ∀ k : Fin 8, angA (argPos m c) (ix3 ⟨r.1 / 2048, by omega⟩ ⟨r.1 % 2048, by omega⟩ k) = (p : EReal) * Cert.Kernel2Ideal.Hand.freq k :=
  ⟨_, inP_row m c r, fun k => angA_apply _ _ _ k⟩

theorem rotQ (r : Fin 32768) (h : Fin 4) (e : Fin 2) (d : Fin 64) :
    rotR (projX m c r) (inG m c) (inP m c (ix3 ⟨r.1 / 512, by omega⟩ 0 ⟨r.1 % 512, by omega⟩)) (inF m c) (inE m c) (inO m c) ⟨h.1 * 128 + e.1 * 64 + d.1, by omega⟩
      = rotA (normA (headQ (projK m c)) (argGq m c)) (angA (argPos m c)) (ix5 ⟨r.1 / 2048, by omega⟩ ⟨r.1 % 2048, by omega⟩ h e d) * Ideal.ofBits .f32 0x3E000000#32 := by
  obtain ⟨p, hp, ha⟩ := pos_real m c r
  rw [hp]
  by_cases h1 : d.1 < 8
  · have ed : d = ⟨(⟨d.1, h1⟩ : Fin 8).1, by omega⟩ := rfl
    rw [rotR_lo m c _ _ p _ _ ⟨h.1 * 128 + e.1 * 64 + (8 + d.1), by omega⟩ ⟨d.1, h1⟩ (by show (h.1 * 128 + e.1 * 64 + d.1) % 64 = d.1; omega) (by dsimp only; omega),
      kernelQ, kernelQ m c r h e ⟨8 + d.1, by omega⟩, c_scale, scale_sub _ _ _ _ _ (by norm_num)]
    conv_rhs => rw [ed, rotA_lo, ha]
  by_cases h2 : d.1 < 16
  · have ed : d = ⟨8 + (⟨d.1 - 8, by omega⟩ : Fin 8).1, by dsimp only; omega⟩ := Fin.ext (by dsimp only; omega)
    rw [rotR_hi m c _ _ p _ _ ⟨h.1 * 128 + e.1 * 64 + (d.1 - 8), by omega⟩ ⟨d.1 - 8, by omega⟩ (by show (h.1 * 128 + e.1 * 64 + d.1) % 64 = 8 + (d.1 - 8); omega) (by dsimp only; omega),
      kernelQ, kernelQ m c r h e ⟨d.1 - 8, by omega⟩, c_scale, scale_add _ _ _ _ _ (by norm_num)]
    conv_rhs => rw [ed, rotA_hi, ha, ← ed]
  · have ed : d = ⟨16 + (⟨d.1 - 16, by omega⟩ : Fin 48).1, by dsimp only; omega⟩ := Fin.ext (by dsimp only; omega)
    rw [rotR_rest m c _ _ p _ _ (by show ¬ (h.1 * 128 + e.1 * 64 + d.1) % 64 < 16; omega), kernelQ]
    conv_rhs => rw [ed, rotA_rest, ← ed]

theorem rotK (r : Fin 32768) (h : Fin 4) (e : Fin 2) (d : Fin 64) :
    rotR (projX m c r) (inG m c) (inP m c (ix3 ⟨r.1 / 512, by omega⟩ 0 ⟨r.1 % 512, by omega⟩)) (inF m c) (inE m c) (inO m c) ⟨512 + (h.1 * 128 + e.1 * 64 + d.1), by omega⟩
      = rotA (normA (headK (projK m c)) (argGk m c)) (angA (argPos m c)) (ix5 ⟨r.1 / 2048, by omega⟩ ⟨r.1 % 2048, by omega⟩ h e d) := by
  obtain ⟨p, hp, ha⟩ := pos_real m c r
  rw [hp]
  by_cases h1 : d.1 < 8
  · have ed : d = ⟨(⟨d.1, h1⟩ : Fin 8).1, by omega⟩ := rfl
    rw [rotR_lo m c _ _ p _ _ ⟨512 + (h.1 * 128 + e.1 * 64 + (8 + d.1)), by omega⟩ ⟨d.1, h1⟩ (by show (512 + (h.1 * 128 + e.1 * 64 + d.1)) % 64 = d.1; omega) (by dsimp only; omega),
      kernelK, kernelK m c r h e ⟨8 + d.1, by omega⟩]
    conv_rhs => rw [ed, rotA_lo, ha]
  by_cases h2 : d.1 < 16
  · have ed : d = ⟨8 + (⟨d.1 - 8, by omega⟩ : Fin 8).1, by dsimp only; omega⟩ := Fin.ext (by dsimp only; omega)
    rw [rotR_hi m c _ _ p _ _ ⟨512 + (h.1 * 128 + e.1 * 64 + (d.1 - 8)), by omega⟩ ⟨d.1 - 8, by omega⟩ (by show (512 + (h.1 * 128 + e.1 * 64 + d.1)) % 64 = 8 + (d.1 - 8); omega) (by dsimp only; omega),
      kernelK, kernelK m c r h e ⟨d.1 - 8, by omega⟩]
    conv_rhs => rw [ed, rotA_hi, ha, ← ed]
  · have ed : d = ⟨16 + (⟨d.1 - 16, by omega⟩ : Fin 48).1, by dsimp only; omega⟩ := Fin.ext (by dsimp only; omega)
    rw [rotR_rest m c _ _ p _ _ (by show ¬ (512 + (h.1 * 128 + e.1 * 64 + d.1)) % 64 < 16; omega), kernelK]
    conv_rhs => rw [ed, rotA_rest, ← ed]

/-! ## The four results -/

theorem resQK_ref : (resQK m c : FVec Ideal S32768x1024 .bf16)
    = qkA (rotA (normA (headQ (projK m c)) (argGq m c)) (angA (argPos m c))) (rotA (normA (headK (projK m c)) (argGk m c)) (angA (argPos m c))) := by
  funext j
  obtain ⟨r, n, rfl⟩ : ∃ (r : Fin 32768) (n : Fin 1024), j = ix2 r n := ⟨j 0, j 1, eq_ix2 j⟩
  show rotR (projX m c r) (inG m c) (inP m c (ix3 ⟨r.1 / 512, by omega⟩ 0 ⟨r.1 % 512, by omega⟩)) (inF m c) (inE m c) (inO m c) n = _
  by_cases hn : n.1 < 512
  · have en : n = ⟨(⟨n.1 / 128, by omega⟩ : Fin 4).1 * 128 + (⟨n.1 / 64 % 2, by omega⟩ : Fin 2).1 * 64 + (⟨n.1 % 64, by omega⟩ : Fin 64).1, by dsimp only; omega⟩ := Fin.ext (by dsimp only; omega)
    rw [en, rotQ, qkA_q]
  · have en : n = ⟨512 + ((⟨(n.1 - 512) / 128, by omega⟩ : Fin 4).1 * 128 + (⟨n.1 / 64 % 2, by omega⟩ : Fin 2).1 * 64 + (⟨n.1 % 64, by omega⟩ : Fin 64).1), by dsimp only; omega⟩ := Fin.ext (by dsimp only; omega)
    rw [en, rotK, qkA_k]

theorem resV_ref : (resV m c : FVec Ideal S32768x512 .bf16) = flatA (partV (projK m c)) := by
  funext j
  obtain ⟨r, n, rfl⟩ : ∃ (r : Fin 32768) (n : Fin 512), j = ix2 r n := ⟨j 0, j 1, eq_ix2 j⟩
  rw [flatA_apply, partV_apply]
  exact projX_eq m c r _

theorem resU_ref : (resU m c : FVec Ideal S32768x512 .bf16) = flatA (geluA (partU (projK m c))) := by
  funext j
  obtain ⟨r, n, rfl⟩ : ∃ (r : Fin 32768) (n : Fin 512), j = ix2 r n := ⟨j 0, j 1, eq_ix2 j⟩
  rw [flatA_apply, geluA_apply, partU_apply, ← projX_eq m c r, ← gelu_eq]
  rfl

theorem resN_ref : (resN m c : FVec Ideal S32768x512 .bf16) = flatA (lnA (ctrA (geluA (partS (projK m c)))) (argLg m c) (argLb m c)) := by
  funext j
  obtain ⟨r, n, rfl⟩ : ∃ (r : Fin 32768) (n : Fin 512), j = ix2 r n := ⟨j 0, j 1, eq_ix2 j⟩
  rw [flatA_apply, lnA_apply]
  simp only [ctrA_apply, geluA_apply, partS_apply, ← projX_eq m c r, ← gelu_eq, ← inLg_apply m c n, ← inLb_apply m c n]
  rfl

end Cert.Kernel2Ideal.Hand

end
-- ==== Proof.MixingBlock.lean ====
/- The mixing's block of rows, read at an index. The kernel's sixteen tiles (four groups of columns by four chunks of 128 rows) are
   one definition, `tile`, read once; the groups are stacks of tiles, and what is stored is the residual and two products. -/
module

public import proofs.«01_k».proof.Proof.Math
public import proofs.«01_k».proof.Proof.Gen.Kernel3Ideal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel3Ideal.Hand

open Idealize.ShloMosaic Idealize.ShloMosaic.TcCoe Cert.Kernel3Ideal Cert.Kernel3Ideal.Gen

variable (x0 x1 x2 : Vec Ideal S512x512 .bf16) (x3 : Vec Ideal S512x1024 .f32) (x4 : Vec Ideal S4x128x128 .f32) (x5 : Vec Ideal S128x4 .f32) (x6 : Vec Ideal S4x128 .f32) (x7 : Vec Ideal S1024x1024 .bf16)

/-- The gate's mixed values of group `g`, chunk `q`: row `t` against the lower triangle of the group's matrix, and the bias. -/
def mixB (g q : Fin 4) (t d : Fin 128) : EReal :=
  (∑ s : Fin 128, (if s.1 ≤ t.1 then (x4 (ix3 g t s) * x2 (ix2 ⟨q.1 * 128 + s.1, by omega⟩ ⟨g.1 * 128 + d.1, by omega⟩) : EReal) else 0) : EReal) + x5 (ix2 t g)

/-- … times the gate. -/
def gatedB (g q : Fin 4) (t d : Fin 128) : EReal :=
  x1 (ix2 ⟨q.1 * 128 + t.1, by omega⟩ ⟨g.1 * 128 + d.1, by omega⟩) * mixB x2 x4 x5 g q t d

/-- … and normed over the group. -/
def normB (g q : Fin 4) (t d : Fin 128) : EReal :=
  gatedB x1 x2 x4 x5 g q t d * Ideal.rsqrt (Ideal.div (∑ x : Fin 128, gatedB x1 x2 x4 x5 g q t x * gatedB x1 x2 x4 x5 g q t x) (Ideal.ofBits .f32 0x43000000#32) + Ideal.ofBits .f32 0x358637BD#32) * x6 (ix2 g d)

theorem inW_le (g : Fin 4) : ∀ a, (![g.1, 0, 0] : Fin 3 → ℕ) a + (![1, 128, 128] : Fin 3 → ℕ) a ≤ S4x128x128.size a := by
  revert g; decide
theorem inB_le (g : Fin 4) : ∀ a, (![0, g.1] : Fin 2 → ℕ) a + (![128, 1] : Fin 2 → ℕ) a ≤ S128x4.size a := by
  revert g; decide
theorem inG_le (g : Fin 4) : ∀ a, (![g.1, 0] : Fin 2 → ℕ) a + (![1, 128] : Fin 2 → ℕ) a ≤ S4x128.size a := by
  revert g; decide
theorem inV_le (g q : Fin 4) : ∀ a, (![q.1 * 128, g.1 * 128] : Fin 2 → ℕ) a + (![128, 128] : Fin 2 → ℕ) a ≤ S512x512.size a := by
  revert g q; decide

/-- The kernel's own tile of group `g`, chunk `q`. -/
def tile (g q : Fin 4) : FVec Ideal S128x128 .bf16 :=
  k0_pay47 (F := Ideal) (k0_pay42 (F := Ideal) k0_pay3 (View.ld x4 (Rect.unit ![g.1, 0, 0] ![1, 128, 128] (inW_le g)) : FVec Ideal S1x128x128 .f32))
    (k0_pay43 (F := Ideal) (View.ld x5 (Rect.unit ![0, g.1] ![128, 1] (inB_le g)) : FVec Ideal S128x1 .f32))
    (k0_pay44 (F := Ideal) (View.ld x6 (Rect.unit ![g.1, 0] ![1, 128] (inG_le g)) : FVec Ideal S1x128 .f32))
    (View.ld x2 (Rect.unit ![q.1 * 128, g.1 * 128] ![128, 128] (inV_le g q)) : FVec Ideal S128x128 .bf16)
    (View.ld x1 (Rect.unit ![q.1 * 128, g.1 * 128] ![128, 128] (inV_le g q)) : FVec Ideal S128x128 .bf16)

/-- Four tiles, one above the other. -/
def stack (c0 c1 c2 c3 : FVec Ideal S128x128 .bf16) : FVec Ideal S512x128 .bf16 :=
  concatenate S512x128 0 [⟨S128x128, c0⟩, ⟨S128x128, c1⟩, ⟨S128x128, c2⟩, ⟨S128x128, c3⟩] concatenates_S128x128_S128x128_S128x128_S128x128_S512x128_d0

/-- Four stacks, side by side. -/
def wide (c0 c1 c2 c3 : FVec Ideal S512x128 .bf16) : FVec Ideal S512x512 .bf16 :=
  concatenate S512x512 1 [⟨S512x128, c0⟩, ⟨S512x128, c1⟩, ⟨S512x128, c2⟩, ⟨S512x128, c3⟩] concatenates_S512x128_S512x128_S512x128_S512x128_S512x512_d1

/-- The stack of a group's tiles. -/
def grp (g : Fin 4) : FVec Ideal S512x128 .bf16 :=
  stack (tile x1 x2 x4 x5 x6 g 0) (tile x1 x2 x4 x5 x6 g 1) (tile x1 x2 x4 x5 x6 g 2) (tile x1 x2 x4 x5 x6 g 3)

theorem stack_at (c0 c1 c2 c3 : FVec Ideal S128x128 .bf16) (r : Fin 512) (d : Fin 128) :
    stack c0 c1 c2 c3 (ix2 r d) = (![c0, c1, c2, c3] ⟨r.1 / 128, by omega⟩ : FVec Ideal S128x128 .bf16) (ix2 ⟨r.1 % 128, by omega⟩ d) := by
  unfold stack
  pointwise
  have hr := r.2
  split
  · have e : (⟨r.1 / 128, by omega⟩ : Fin 4) = 0 := Fin.ext (by show r.1 / 128 = 0; omega)
    rw [e]
    exact congrArg _ (congrArg (fun x => ix2 x d) (Fin.ext (by show _ = _ % _; dsimp only; omega)))
  · split
    · have e : (⟨r.1 / 128, by omega⟩ : Fin 4) = 1 := Fin.ext (by show r.1 / 128 = 1; omega)
      rw [e]
      exact congrArg _ (congrArg (fun x => ix2 x d) (Fin.ext (by show _ = _ % _; dsimp only; omega)))
    · split
      · have e : (⟨r.1 / 128, by omega⟩ : Fin 4) = 2 := Fin.ext (by show r.1 / 128 = 2; omega)
        rw [e]
        exact congrArg _ (congrArg (fun x => ix2 x d) (Fin.ext (by show _ = _ % _; dsimp only; omega)))
      · have e : (⟨r.1 / 128, by omega⟩ : Fin 4) = 3 := Fin.ext (by show r.1 / 128 = 3; omega)
        rw [e]
        exact congrArg _ (congrArg (fun x => ix2 x d) (Fin.ext (by show _ = _ % _; dsimp only; omega)))

theorem wide_at (c0 c1 c2 c3 : FVec Ideal S512x128 .bf16) (r k : Fin 512) :
    wide c0 c1 c2 c3 (ix2 r k) = (![c0, c1, c2, c3] ⟨k.1 / 128, by omega⟩ : FVec Ideal S512x128 .bf16) (ix2 r ⟨k.1 % 128, by omega⟩) := by
  unfold wide
  pointwise
  have hr := k.2
  split
  · have e : (⟨k.1 / 128, by omega⟩ : Fin 4) = 0 := Fin.ext (by show k.1 / 128 = 0; omega)
    rw [e]
    exact congrArg _ (congrArg (fun x => ix2 r x) (Fin.ext (by show _ = _ % _; dsimp only; omega)))
  · split
    · have e : (⟨k.1 / 128, by omega⟩ : Fin 4) = 1 := Fin.ext (by show k.1 / 128 = 1; omega)
      rw [e]
      exact congrArg _ (congrArg (fun x => ix2 r x) (Fin.ext (by show _ = _ % _; dsimp only; omega)))
    · split
      · have e : (⟨k.1 / 128, by omega⟩ : Fin 4) = 2 := Fin.ext (by show k.1 / 128 = 2; omega)
        rw [e]
        exact congrArg _ (congrArg (fun x => ix2 r x) (Fin.ext (by show _ = _ % _; dsimp only; omega)))
      · have e : (⟨k.1 / 128, by omega⟩ : Fin 4) = 3 := Fin.ext (by show k.1 / 128 = 3; omega)
        rw [e]
        exact congrArg _ (congrArg (fun x => ix2 r x) (Fin.ext (by show _ = _ % _; dsimp only; omega)))

theorem select_sle {a b : ℕ} (ha : a < 2 ^ 31) (hb : b < 2 ^ 31) (u v : EReal) :
    Scalar.select (IntOp.cmpi .sle (BitVec.ofNat 32 a) (BitVec.ofNat 32 b)) u v = if a ≤ b then u else v := by
  rw [WordCmp.cmpi_sle_ofNat ha hb]
  by_cases h : a ≤ b <;> simp [h, Scalar.select]

/-- The same tile of any five arrays loaded. -/
def tileV (w : FVec Ideal S1x128x128 .f32) (b : FVec Ideal S128x1 .f32) (gn : FVec Ideal S1x128 .f32) (v u : FVec Ideal S128x128 .bf16) : FVec Ideal S128x128 .bf16 :=
  k0_pay47 (F := Ideal) (k0_pay42 (F := Ideal) k0_pay3 w) (k0_pay43 (F := Ideal) b) (k0_pay44 (F := Ideal) gn) v u

/-- The gated values of any arrays loaded. -/
def gatedV (w : FVec Ideal S1x128x128 .f32) (b : FVec Ideal S128x1 .f32) (v u : FVec Ideal S128x128 .bf16) (t d : Fin 128) : EReal :=
  u (ix2 t d) * ((∑ s : Fin 128, (if s.1 ≤ t.1 then (w (ix3 (0 : Fin 1) t s) * v (ix2 s d) : EReal) else 0) : EReal) + b (ix2 t (0 : Fin 1)))

theorem mix_select (t : Fin 128) (f : Fin 128 → EReal) :
    (∑ s : Fin 128, Scalar.select (IntOp.cmpi .sle (BitVec.ofNat 32 s.1) (BitVec.ofNat 32 t.1)) (f s) 0 : EReal) = ∑ s : Fin 128, if s.1 ≤ t.1 then f s else 0 :=
  Finset.sum_congr rfl fun _ _ => select_sle (by omega) (by omega) _ _

theorem tileV_at (w : FVec Ideal S1x128x128 .f32) (b : FVec Ideal S128x1 .f32) (gn : FVec Ideal S1x128 .f32) (v u : FVec Ideal S128x128 .bf16) (t d : Fin 128) :
    tileV w b gn v u (ix2 t d) = gatedV w b v u t d * Ideal.rsqrt (Ideal.div (∑ x : Fin 128, gatedV w b v u t x * gatedV w b v u t x) (Ideal.ofBits .f32 0x43000000#32) + Ideal.ofBits .f32 0x358637BD#32) * gn (ix2 (0 : Fin 1) d) := by
  unfold tileV
  unfold_payloads
  pointwise
  simp only [mix_select]
  rfl

theorem ld_w (g : Fin 4) (t s : Fin 128) :
    (View.ld x4 (Rect.unit ![g.1, 0, 0] ![1, 128, 128] (inW_le g)) : FVec Ideal S1x128x128 .f32) (ix3 (0 : Fin 1) t s) = x4 (ix3 g t s) := by
  refine congrArg x4 ?_
  funext i
  fin_cases i <;> exact Fin.ext (by show _ + 1 * _ = _; simp)

theorem ld_b (g : Fin 4) (t : Fin 128) :
    (View.ld x5 (Rect.unit ![0, g.1] ![128, 1] (inB_le g)) : FVec Ideal S128x1 .f32) (ix2 t (0 : Fin 1)) = x5 (ix2 t g) := by
  refine congrArg x5 ?_
  funext i
  fin_cases i <;> exact Fin.ext (by show _ + 1 * _ = _; simp)

theorem ld_g (g : Fin 4) (d : Fin 128) :
    (View.ld x6 (Rect.unit ![g.1, 0] ![1, 128] (inG_le g)) : FVec Ideal S1x128 .f32) (ix2 (0 : Fin 1) d) = x6 (ix2 g d) := by
  refine congrArg x6 ?_
  funext i
  fin_cases i <;> exact Fin.ext (by show _ + 1 * _ = _; simp)

theorem ld_v (x : Vec Ideal S512x512 .bf16) (g q : Fin 4) (t d : Fin 128) :
    (View.ld x (Rect.unit ![q.1 * 128, g.1 * 128] ![128, 128] (inV_le g q)) : FVec Ideal S128x128 .bf16) (ix2 t d) = x (ix2 ⟨q.1 * 128 + t.1, by omega⟩ ⟨g.1 * 128 + d.1, by omega⟩) := by
  refine congrArg x ?_
  funext i
  fin_cases i <;> exact Fin.ext (by show _ + 1 * _ = _; simp)

theorem tile_at (g q : Fin 4) (t d : Fin 128) : tile x1 x2 x4 x5 x6 g q (ix2 t d) = normB x1 x2 x4 x5 x6 g q t d := by
  refine (tileV_at _ _ _ _ _ t d).trans ?_
  have h (x : Fin 128) : gatedV (View.ld x4 (Rect.unit ![g.1, 0, 0] ![1, 128, 128] (inW_le g)) : FVec Ideal S1x128x128 .f32)
      (View.ld x5 (Rect.unit ![0, g.1] ![128, 1] (inB_le g)) : FVec Ideal S128x1 .f32)
      (View.ld x2 (Rect.unit ![q.1 * 128, g.1 * 128] ![128, 128] (inV_le g q)) : FVec Ideal S128x128 .bf16)
      (View.ld x1 (Rect.unit ![q.1 * 128, g.1 * 128] ![128, 128] (inV_le g q)) : FVec Ideal S128x128 .bf16) t x = gatedB x1 x2 x4 x5 g q t x := by
    unfold gatedV gatedB mixB
    rw [ld_v, ld_b]
    refine congrArg (fun z : EReal => _ * (z + _)) (Finset.sum_congr rfl fun s _ => ?_)
    rw [ld_w, ld_v]
  rw [h d, ld_g]
  refine congrArg (fun z : EReal => _ * Ideal.rsqrt (Ideal.div z _ + _) * _) (Finset.sum_congr rfl fun s _ => ?_)
  rw [h]

/-- What the kernel leaves in its block of rows: the residual, the attention's rows against the upper half of the weights, and
    the normed gates against the lower half. -/
def blkH : Vec Ideal S512x1024 .f32 := fun y =>
  x3 y + ((∑ k : Fin 512, x0 (ix2 (y 0) k) * x7 (ix2 ⟨k.1, by omega⟩ (y 1)) : EReal)
    + ∑ k : Fin 512, normB x1 x2 x4 x5 x6 ⟨k.1 / 128, by omega⟩ ⟨(y 0).1 / 128, by have := (y 0).2; have : S512x1024.size 0 = 512 := rfl; omega⟩ ⟨(y 0).1 % 128, by omega⟩ ⟨k.1 % 128, by omega⟩ * x7 (ix2 ⟨512 + k.1, by omega⟩ (y 1)) : EReal)

theorem grp_at (g : Fin 4) (r : Fin 512) (d : Fin 128) :
    grp x1 x2 x4 x5 x6 g (ix2 r d) = normB x1 x2 x4 x5 x6 g ⟨r.1 / 128, by omega⟩ ⟨r.1 % 128, by omega⟩ d := by
  rw [← tile_at]
  unfold grp
  rw [stack_at]
  generalize (⟨r.1 / 128, _⟩ : Fin 4) = q
  fin_cases q <;> rfl

theorem wide_grp (r k : Fin 512) :
    wide (grp x1 x2 x4 x5 x6 0) (grp x1 x2 x4 x5 x6 1) (grp x1 x2 x4 x5 x6 2) (grp x1 x2 x4 x5 x6 3) (ix2 r k)
      = normB x1 x2 x4 x5 x6 ⟨k.1 / 128, by omega⟩ ⟨r.1 / 128, by omega⟩ ⟨r.1 % 128, by omega⟩ ⟨k.1 % 128, by omega⟩ := by
  rw [← grp_at, wide_at]
  generalize (⟨k.1 / 128, _⟩ : Fin 4) = g
  fin_cases g <;> rfl

/-- The product of the normed gates with the weights' lower half, added to the attention's. -/
def outW (s : FVec Ideal S512x512 .bf16) (v581 : FVec Ideal S512x1024 .f32) (v582 : FVec Ideal S512x1024 .bf16) : FVec Ideal S512x1024 .f32 :=
  addf v581 (matmul dot_S512x512_S512x1024_S512x1024_1_0_0_1_n_n none s (shapeCast S512x1024 v582 shapeCasts_S512x1024_S512x1024) (constant S512x1024 .f32 0x00000000#32))

theorem outW_eq :
    k0_pay1 (F := Ideal) (outW (wide (grp x1 x2 x4 x5 x6 0) (grp x1 x2 x4 x5 x6 1) (grp x1 x2 x4 x5 x6 2) (grp x1 x2 x4 x5 x6 3))
        (k0_pay41 (F := Ideal) x0 (View.ld x7 (Rect.unit ![0, 0] ![512, 1024] inb_S1024x1024_S512x1024_0_0)))
        (View.ld x7 (Rect.unit ![512, 0] ![512, 1024] inb_S1024x1024_S512x1024_512_0))) x3 = blkH x0 x1 x2 x3 x4 x5 x6 x7 := by
  funext y
  unfold outW blkH
  unfold_payloads
  idx_vars y
  pointwise
  simp only [wide_grp]

theorem out13A (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S4x128x128 .f32) (harg5 : arg5.IsWhole) (arg6 : Memref sig .tc .vmem S128x4 .f32) (harg6 : arg6.IsWhole) (arg7 : Memref sig .tc .vmem S4x128 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S512x512 .bf16) (harg13 : arg13.IsWhole) (arg14 : Memref sig .tc .vmem S512x1024 .f32) (harg14 : arg14.IsWhole) (arg15 : Memref sig .tc .vmem S512x2x512 .bf16) (harg15 : arg15.IsWhole) (arg16 : Memref sig .tc .vmem S512x128 .f32) (harg16 : arg16.IsWhole) (arg17 : Memref sig .tc .vmem S8x512 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S512x1024 .f32) (harg20 : arg20.IsWhole) (arg21 : Memref sig .tc .vmem S512x1024 .f32) (harg21 : arg21.IsWhole) (hc0 : cond0_0 i)
    (x0 : Vec Ideal S512x512 .bf16) (x1 : Vec Ideal S512x512 .bf16) (x2 : Vec Ideal S512x512 .bf16) (x3 : Vec Ideal S512x1024 .f32) (x4 : Vec Ideal S4x128x128 .f32) (x5 : Vec Ideal S128x4 .f32) (x6 : Vec Ideal S4x128 .f32) (x7 : Vec Ideal S1024x1024 .bf16) (x8 : Vec Ideal S1x1024 .f32) (x9 : Vec Ideal S1024x256 .bf16) (x10 : Vec Ideal S1024x128 .bf16) (x11 : Vec Ideal S1x128 .f32) (x12 : Vec Ideal S512x512 .bf16) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 = blkH x0 x1 x2 x3 x4 x5 x6 x7 := by
  frame_open
  frame_out
  rw [← outW_eq]
  rfl

theorem out13B (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S4x128x128 .f32) (harg5 : arg5.IsWhole) (arg6 : Memref sig .tc .vmem S128x4 .f32) (harg6 : arg6.IsWhole) (arg7 : Memref sig .tc .vmem S4x128 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S512x512 .bf16) (harg13 : arg13.IsWhole) (arg14 : Memref sig .tc .vmem S512x1024 .f32) (harg14 : arg14.IsWhole) (arg15 : Memref sig .tc .vmem S512x2x512 .bf16) (harg15 : arg15.IsWhole) (arg16 : Memref sig .tc .vmem S512x128 .f32) (harg16 : arg16.IsWhole) (arg17 : Memref sig .tc .vmem S8x512 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S512x1024 .f32) (harg20 : arg20.IsWhole) (arg21 : Memref sig .tc .vmem S512x1024 .f32) (harg21 : arg21.IsWhole) (hc0 : ¬cond0_0 i)
    (x0 : Vec Ideal S512x512 .bf16) (x1 : Vec Ideal S512x512 .bf16) (x2 : Vec Ideal S512x512 .bf16) (x3 : Vec Ideal S512x1024 .f32) (x4 : Vec Ideal S4x128x128 .f32) (x5 : Vec Ideal S128x4 .f32) (x6 : Vec Ideal S4x128 .f32) (x7 : Vec Ideal S1024x1024 .bf16) (x8 : Vec Ideal S1x1024 .f32) (x9 : Vec Ideal S1024x256 .bf16) (x10 : Vec Ideal S1024x128 .bf16) (x11 : Vec Ideal S1x128 .f32) (x12 : Vec Ideal S512x512 .bf16) (xs0 : Vec Ideal S1x128 .f32) (xs1 : Vec Ideal S512x1024 .f32) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 xs0 xs1 = blkH x0 x1 x2 x3 x4 x5 x6 x7 := by
  frame_open
  frame_out
  rw [← outW_eq]
  rfl

end Cert.Kernel3Ideal.Hand

end
-- ==== Proof.MixingHost.lean ====
/- What the host operations leave for the mixing: the attention's rows, the gate's halves, the layer's input and the weights, as the
   arguments hold them. -/
module

public import proofs.«01_k».proof.Proof.Math
public import proofs.«01_k».proof.Proof.Gen.Kernel3Ideal.Value
public import Idealize.ShloMosaic.Lib.Pipeline.ValueKit
public import Idealize.ShloMosaic.Lib.Pipeline.ReadBack
public import Idealize.ShloMosaic.Lib.Pointwise
public import Idealize.ShloMosaic.Lib.StableHlo.Run

@[expose] public section

set_option maxRecDepth 16384

noncomputable section

namespace Cert.Kernel3Ideal.Hand

open Idealize.ShloMosaic Idealize.ShloMosaic.TcCoe Cert.Kernel3Ideal Cert.Kernel3Ideal.Gen Cert.Kernel3Ideal.Value Idealize.ShloMosaic.StableHlo

variable (m : (ℓ : Loc nD τ sig) → Buf (Elt Ideal) ℓ) (c : Dev nD)

/-- The arguments. -/
def argA : FVec Ideal S16x2048x512 .f32 := m ((c.tc : Thread nD τ).loc main_arg0)
def argU : FVec Ideal S16x2048x512 .f32 := m ((c.tc : Thread nD τ).loc main_arg1)
def argV : FVec Ideal S16x2048x512 .f32 := m ((c.tc : Thread nD τ).loc main_arg2)
def argX : FVec Ideal S16x2048x1024 .f32 := m ((c.tc : Thread nD τ).loc main_arg3)
def argW : FVec Ideal S1x4x128x128 .f32 := m ((c.tc : Thread nD τ).loc main_arg4)
def argB : FVec Ideal S1x4x128 .f32 := m ((c.tc : Thread nD τ).loc main_arg5)
def argN : FVec Ideal S1x4x128 .f32 := m ((c.tc : Thread nD τ).loc main_arg6)
def argP : FVec Ideal S1x1024x1024 .f32 := m ((c.tc : Thread nD τ).loc main_arg7)

/-- The arrays that the call reads. -/
def inA : FVec Ideal S32768x512 .bf16 := V m c main_v22
def inU : FVec Ideal S32768x512 .bf16 := V m c main_v24
def inV : FVec Ideal S32768x512 .bf16 := V m c main_v26
def inX : FVec Ideal S32768x1024 .f32 := V m c main_v7
def inW : FVec Ideal S4x128x128 .f32 := V m c main_v27
def inB : FVec Ideal S128x4 .f32 := V m c main_v29
def inN : FVec Ideal S4x128 .f32 := V m c main_v30
def inP : FVec Ideal S1024x1024 .bf16 := V m c main_v32

theorem inA_eq : inA m c = truncf .bf16 (shapeCast S32768x512 (argA m c) shapeCasts_S16x2048x512_S32768x512) bitsLt_bf16_f32 := by
  unfold inA V
  simp only [hostOps0, hostOps0_1, hostOps0_2, hostOps0_3, hostOps0_4, List.flatten_cons, List.flatten_nil, List.cons_append, List.nil_append, List.append_nil]
  after_results_simp
  rfl

theorem inA_apply (b : Fin 16) (x : Fin 2048) (k : Fin 512) : inA m c (ix2 ⟨b.1 * 2048 + x.1, by omega⟩ k) = argA m c (ix3 b x k) := by
  rw [inA_eq]
  pointwise

theorem inU_eq : inU m c = truncf .bf16 (shapeCast S32768x512 (argU m c) shapeCasts_S16x2048x512_S32768x512) bitsLt_bf16_f32 := by
  unfold inU V
  simp only [hostOps0, hostOps0_1, hostOps0_2, hostOps0_3, hostOps0_4, List.flatten_cons, List.flatten_nil, List.cons_append, List.nil_append, List.append_nil]
  after_results_simp
  rfl

theorem inU_apply (b : Fin 16) (x : Fin 2048) (k : Fin 512) : inU m c (ix2 ⟨b.1 * 2048 + x.1, by omega⟩ k) = argU m c (ix3 b x k) := by
  rw [inU_eq]
  pointwise

theorem inV_eq : inV m c = truncf .bf16 (shapeCast S32768x512 (argV m c) shapeCasts_S16x2048x512_S32768x512) bitsLt_bf16_f32 := by
  unfold inV V
  simp only [hostOps0, hostOps0_1, hostOps0_2, hostOps0_3, hostOps0_4, List.flatten_cons, List.flatten_nil, List.cons_append, List.nil_append, List.append_nil]
  after_results_simp
  rfl

theorem inV_apply (b : Fin 16) (x : Fin 2048) (k : Fin 512) : inV m c (ix2 ⟨b.1 * 2048 + x.1, by omega⟩ k) = argV m c (ix3 b x k) := by
  rw [inV_eq]
  pointwise

theorem inX_eq : inX m c = shapeCast S32768x1024 (argX m c) shapeCasts_S16x2048x1024_S32768x1024 := by
  unfold inX V
  simp only [hostOps0, hostOps0_1, hostOps0_2, hostOps0_3, hostOps0_4, List.flatten_cons, List.flatten_nil, List.cons_append, List.nil_append, List.append_nil]
  after_results_simp
  rfl

theorem inX_apply (b : Fin 16) (x : Fin 2048) (k : Fin 1024) : inX m c (ix2 ⟨b.1 * 2048 + x.1, by omega⟩ k) = argX m c (ix3 b x k) := by
  rw [inX_eq]
  pointwise

theorem inW_eq : inW m c = shapeCast S4x128x128 (argW m c) shapeCasts_S1x4x128x128_S4x128x128 := by
  unfold inW V
  simp only [hostOps0, hostOps0_1, hostOps0_2, hostOps0_3, hostOps0_4, List.flatten_cons, List.flatten_nil, List.cons_append, List.nil_append, List.append_nil]
  after_results_simp
  rfl

theorem inW_apply (g : Fin 4) (t s : Fin 128) : inW m c (ix3 g t s) = argW m c (ix4 0 g t s) := by
  rw [inW_eq]
  pointwise

theorem inB_eq : inB m c = transpose S128x4 [1, 0] (shapeCast S4x128 (argB m c) shapeCasts_S1x4x128_S4x128) transposes_S4x128_S128x4_1_0 := by
  unfold inB V
  simp only [hostOps0, hostOps0_1, hostOps0_2, hostOps0_3, hostOps0_4, List.flatten_cons, List.flatten_nil, List.cons_append, List.nil_append, List.append_nil]
  after_results_simp
  rfl

theorem inB_apply (t : Fin 128) (g : Fin 4) : inB m c (ix2 t g) = argB m c (ix3 0 g t) := by
  rw [inB_eq]
  pointwise

theorem inN_eq : inN m c = shapeCast S4x128 (argN m c) shapeCasts_S1x4x128_S4x128 := by
  unfold inN V
  simp only [hostOps0, hostOps0_1, hostOps0_2, hostOps0_3, hostOps0_4, List.flatten_cons, List.flatten_nil, List.cons_append, List.nil_append, List.append_nil]
  after_results_simp
  rfl

theorem inN_apply (g : Fin 4) (d : Fin 128) : inN m c (ix2 g d) = argN m c (ix3 0 g d) := by
  rw [inN_eq]
  pointwise

theorem inP_eq : inP m c = truncf .bf16 (shapeCast S1024x1024 (argP m c) shapeCasts_S1x1024x1024_S1024x1024) bitsLt_bf16_f32 := by
  unfold inP V
  simp only [hostOps0, hostOps0_1, hostOps0_2, hostOps0_3, hostOps0_4, List.flatten_cons, List.flatten_nil, List.cons_append, List.nil_append, List.append_nil]
  after_results_simp
  rfl

theorem inP_apply (k n : Fin 1024) : inP m c (ix2 k n) = argP m c (ix3 0 k n) := by
  rw [inP_eq]
  pointwise

end Cert.Kernel3Ideal.Hand

end
-- ==== Proof.MixingArray.lean ====
/- The mixing's first result, one array of the arguments: the blocks written at the grid's points, put together. The grid has one
   point more than there are blocks of rows, and its last two points write the same block. -/
module

public import proofs.«01_k».proof.Proof.MixingBlock
public import proofs.«01_k».proof.Proof.MixingHost

@[expose] public section

set_option maxRecDepth 16384

noncomputable section

namespace Cert.Kernel3Ideal.Hand

open Idealize.ShloMosaic Idealize.ShloMosaic.TcCoe Cert.Kernel3Ideal Cert.Kernel3Ideal.Gen Cert.Kernel3Ideal.Value Idealize.ShloMosaic.StableHlo

/-! ## The rows of any arrays -/

section Rows

variable (a u v : FVec Ideal S32768x512 .bf16) (x : FVec Ideal S32768x1024 .f32) (w : FVec Ideal S4x128x128 .f32) (b : FVec Ideal S128x4 .f32) (g : FVec Ideal S4x128 .f32) (p : FVec Ideal S1024x1024 .bf16)

/-- The gate mixed along its chunk of the sequence. -/
def seqK (r : Fin 32768) (k : Fin 512) : EReal :=
  (∑ s : Fin 128, (if s.1 ≤ r.1 % 128 then (w (ix3 ⟨k.1 / 128, by omega⟩ ⟨r.1 % 128, by omega⟩ s) * v (ix2 ⟨r.1 / 128 * 128 + s.1, by omega⟩ k) : EReal) else 0) : EReal)
    + b (ix2 ⟨r.1 % 128, by omega⟩ ⟨k.1 / 128, by omega⟩)

/-- … times the gate. -/
def gateK (r : Fin 32768) (k : Fin 512) : EReal := u (ix2 r k) * seqK v w b r k

/-- … normed over its group. -/
def gnormK (r : Fin 32768) (k : Fin 512) : EReal :=
  gateK u v w b r k * Ideal.rsqrt (Ideal.div (∑ d : Fin 128, gateK u v w b r ⟨k.1 / 128 * 128 + d.1, by omega⟩ * gateK u v w b r ⟨k.1 / 128 * 128 + d.1, by omega⟩) (Ideal.ofBits .f32 0x43000000#32) + Ideal.ofBits .f32 0x358637BD#32)
    * g (ix2 ⟨k.1 / 128, by omega⟩ ⟨k.1 % 128, by omega⟩)

/-- The output projection and the residual. -/
def outK : FVec Ideal S32768x1024 .f32 := fun j =>
  x j + ((∑ k : Fin 512, a (ix2 (j 0) k) * p (ix2 ⟨k.1, by omega⟩ (j 1)) : EReal) + ∑ k : Fin 512, gnormK u v w b g (j 0) k * p (ix2 ⟨512 + k.1, by omega⟩ (j 1)) : EReal)

/-- A block of rows, of either width. -/
def rowsH (z : FVec Ideal S32768x512 .bf16) (i : Fin 64) : Vec Ideal S512x512 .bf16 :=
  fun y => z (ix2 ⟨i.1 * 512 + (y 0).1, by have := (y 0).2; have : S512x512.size 0 = 512 := rfl; omega⟩ (y 1))
def rowsX (z : FVec Ideal S32768x1024 .f32) (i : Fin 64) : Vec Ideal S512x1024 .f32 :=
  fun y => z (ix2 ⟨i.1 * 512 + (y 0).1, by have := (y 0).2; have : S512x1024.size 0 = 512 := rfl; omega⟩ (y 1))

theorem rowsH_at (z : FVec Ideal S32768x512 .bf16) (i : Fin 64) (r k : Fin 512) : rowsH z i (ix2 r k) = z (ix2 ⟨i.1 * 512 + r.1, by omega⟩ k) := rfl

theorem gate_of (i : Fin 64) (h q : Fin 4) (t d : Fin 128) :
    gatedB (rowsH u i) (rowsH v i) w b h q t d = gateK u v w b ⟨i.1 * 512 + (q.1 * 128 + t.1), by omega⟩ ⟨h.1 * 128 + d.1, by omega⟩ := by
  have et : (⟨(i.1 * 512 + (q.1 * 128 + t.1)) % 128, by omega⟩ : Fin 128) = t := Fin.ext (by show (i.1 * 512 + (q.1 * 128 + t.1)) % 128 = t.1; omega)
  have eh : (⟨(h.1 * 128 + d.1) / 128, by omega⟩ : Fin 4) = h := Fin.ext (by show (h.1 * 128 + d.1) / 128 = h.1; omega)
  have es (s : Fin 128) : (⟨(i.1 * 512 + (q.1 * 128 + t.1)) / 128 * 128 + s.1, by omega⟩ : Fin 32768) = ⟨i.1 * 512 + (q.1 * 128 + s.1), by omega⟩ :=
    Fin.ext (by show (i.1 * 512 + (q.1 * 128 + t.1)) / 128 * 128 + s.1 = i.1 * 512 + (q.1 * 128 + s.1); omega)
  have en : (i.1 * 512 + (q.1 * 128 + t.1)) % 128 = t.1 := by omega
  unfold gatedB mixB gateK seqK
  dsimp only
  simp only [et, eh, es, en, rowsH_at]

theorem gnorm_of (i : Fin 64) (h q : Fin 4) (t d : Fin 128) :
    normB (rowsH u i) (rowsH v i) w b g h q t d = gnormK u v w b g ⟨i.1 * 512 + (q.1 * 128 + t.1), by omega⟩ ⟨h.1 * 128 + d.1, by omega⟩ := by
  have eh : (⟨(h.1 * 128 + d.1) / 128, by omega⟩ : Fin 4) = h := Fin.ext (by show (h.1 * 128 + d.1) / 128 = h.1; omega)
  have ed : (⟨(h.1 * 128 + d.1) % 128, by omega⟩ : Fin 128) = d := Fin.ext (by show (h.1 * 128 + d.1) % 128 = d.1; omega)
  have ek (s : Fin 128) : (⟨(h.1 * 128 + d.1) / 128 * 128 + s.1, by omega⟩ : Fin 512) = ⟨h.1 * 128 + s.1, by omega⟩ :=
    Fin.ext (by show (h.1 * 128 + d.1) / 128 * 128 + s.1 = h.1 * 128 + s.1; omega)
  unfold normB gnormK
  dsimp only
  simp only [gate_of, eh, ed, ek]

theorem out_at (i : Fin 64) (r : Fin 512) (n : Fin 1024) :
    blkH (rowsH a i) (rowsH u i) (rowsH v i) (rowsX x i) w b g p (ix2 r n) = outK a u v x w b g p (ix2 ⟨i.1 * 512 + r.1, by omega⟩ n) := by
  have er : (⟨i.1 * 512 + (r.1 / 128 * 128 + r.1 % 128), by omega⟩ : Fin 32768) = ⟨i.1 * 512 + r.1, by omega⟩ := Fin.ext (by show i.1 * 512 + (r.1 / 128 * 128 + r.1 % 128) = i.1 * 512 + r.1; omega)
  have ek (k : Fin 512) : (⟨k.1 / 128 * 128 + k.1 % 128, by omega⟩ : Fin 512) = k := Fin.ext (by show k.1 / 128 * 128 + k.1 % 128 = k.1; omega)
  unfold blkH outK
  refine congrArg (fun z : EReal => x (ix2 ⟨i.1 * 512 + r.1, by omega⟩ n) + ((∑ k : Fin 512, a (ix2 ⟨i.1 * 512 + r.1, by omega⟩ k) * p (ix2 ⟨k.1, by omega⟩ n) : EReal) + z)) (Finset.sum_congr rfl fun k _ => ?_)
  show normB (rowsH u i) (rowsH v i) w b g ⟨k.1 / 128, by omega⟩ ⟨r.1 / 128, by omega⟩ ⟨r.1 % 128, by omega⟩ ⟨k.1 % 128, by omega⟩ * _ = gnormK u v w b g ⟨i.1 * 512 + r.1, by omega⟩ k * _
  rw [gnorm_of]
  dsimp only
  rw [er, ek]
  rfl

theorem out_apply (i : Fin 64) (y : S512x1024.Idx) (j : S32768x1024.Idx) (h0 : (j 0).1 = i.1 * 512 + (y 0).1) (h1 : (j 1).1 = (y 1).1) :
    blkH (rowsH a i) (rowsH u i) (rowsH v i) (rowsX x i) w b g p y = outK a u v x w b g p j := by
  obtain ⟨r, n, rfl⟩ : ∃ (r : Fin 512) (n : Fin 1024), y = ix2 r n := ⟨y 0, y 1, eq_ix2 y⟩
  have e : j = ix2 ⟨i.1 * 512 + r.1, by omega⟩ n := by
    funext a
    refine Fin.ext ?_
    fin_cases a
    · exact h0
    · exact h1
  exact (out_at a u v x w b g p i r n).trans (congrArg (outK a u v x w b g p) e.symm)

end Rows

variable (m : (ℓ : Loc nD τ sig) → Buf (Elt Ideal) ℓ) (c : Dev nD)

/-! ## The input blocks -/

theorem ix_0 : ∀ t : Fin cfg0.N, win0_0.index t = ![min (grid0.coords t 0).val 63, 0] := (by decide +kernel : ∀ t : Fin grid0.N, _)
theorem ix_1 : ∀ t : Fin cfg0.N, win0_1.index t = ![min (grid0.coords t 0).val 63, 0] := (by decide +kernel : ∀ t : Fin grid0.N, _)
theorem ix_2 : ∀ t : Fin cfg0.N, win0_2.index t = ![min (grid0.coords t 0).val 63, 0] := (by decide +kernel : ∀ t : Fin grid0.N, _)
theorem ix_3 : ∀ t : Fin cfg0.N, win0_3.index t = ![min (grid0.coords t 0).val 63, 0] := (by decide +kernel : ∀ t : Fin grid0.N, _)
theorem ix_4 : ∀ t : Fin cfg0.N, win0_4.index t = ![0, 0, 0] := (by decide +kernel : ∀ t : Fin grid0.N, _)
theorem ix_5 : ∀ t : Fin cfg0.N, win0_5.index t = ![0, 0] := (by decide +kernel : ∀ t : Fin grid0.N, _)
theorem ix_6 : ∀ t : Fin cfg0.N, win0_6.index t = ![0, 0] := (by decide +kernel : ∀ t : Fin grid0.N, _)
theorem ix_7 : ∀ t : Fin cfg0.N, win0_7.index t = ![0, 0] := (by decide +kernel : ∀ t : Fin grid0.N, _)
theorem ix_13 : ∀ t : Fin cfg0.N, win0_13.index t = ![min (grid0.coords t 0).val 63, 0] := (by decide +kernel : ∀ t : Fin grid0.N, _)

/-- The block of rows of a grid point: the last point's is the one before's. -/
def rowOf (t : Fin cfg0.N) : Fin 64 := ⟨min (grid0.coords t 0).val 63, by omega⟩

theorem blk_0 (t : Fin cfg0.N) : (iblk m c 0 t : Vec Ideal S512x512 .bf16) = rowsH (inA m c) (rowOf t) := by
  funext y
  unfold rowsH inA rowOf
  blk_ext [iblk, ix_0]
theorem blk_1 (t : Fin cfg0.N) : (iblk m c 1 t : Vec Ideal S512x512 .bf16) = rowsH (inU m c) (rowOf t) := by
  funext y
  unfold rowsH inU rowOf
  blk_ext [iblk, ix_1]
theorem blk_2 (t : Fin cfg0.N) : (iblk m c 2 t : Vec Ideal S512x512 .bf16) = rowsH (inV m c) (rowOf t) := by
  funext y
  unfold rowsH inV rowOf
  blk_ext [iblk, ix_2]
theorem blk_3 (t : Fin cfg0.N) : (iblk m c 3 t : Vec Ideal S512x1024 .f32) = rowsX (inX m c) (rowOf t) := by
  funext y
  unfold rowsX inX rowOf
  blk_ext [iblk, ix_3]
theorem blk_4 (t : Fin cfg0.N) : (iblk m c 4 t : Vec Ideal S4x128x128 .f32) = inW m c := by
  funext y
  unfold inW
  blk_ext [iblk, ix_4]
theorem blk_5 (t : Fin cfg0.N) : (iblk m c 5 t : Vec Ideal S128x4 .f32) = inB m c := by
  funext y
  unfold inB
  blk_ext [iblk, ix_5]
theorem blk_6 (t : Fin cfg0.N) : (iblk m c 6 t : Vec Ideal S4x128 .f32) = inN m c := by
  funext y
  unfold inN
  blk_ext [iblk, ix_6]
theorem blk_7 (t : Fin cfg0.N) : (iblk m c 7 t : Vec Ideal S1024x1024 .bf16) = inP m c := by
  funext y
  unfold inP
  blk_ext [iblk, ix_7]

/-! ## The result's array -/

/-- The call's first result. -/
def resH : FVec Ideal S32768x1024 .f32 := outK (inA m c) (inU m c) (inV m c) (inX m c) (inW m c) (inB m c) (inN m c) (inP m c)

/-- What is written at a grid point, first or later. -/
theorem outs_13 (t : Fin cfg0.N) : (outsAt0 m c t.val t.isLt).1
    = blkH (rowsH (inA m c) (rowOf t)) (rowsH (inU m c) (rowOf t)) (rowsH (inV m c) (rowOf t)) (rowsX (inX m c) (rowOf t)) (inW m c) (inB m c) (inN m c) (inP m c) := by
  by_cases h0 : t.val % 65 = 0
  · rw [outsAt0_A m c t h0]
    dsimp only
    rw [out13A, blk_0, blk_1, blk_2, blk_3, blk_4, blk_5, blk_6, blk_7]
  · rw [outsAt0_B m c t h0]
    dsimp only
    rw [out13B, blk_0, blk_1, blk_2, blk_3, blk_4, blk_5, blk_6, blk_7]

theorem arr_13 : (dats m 0 c).arrAt 13 cfg0.N = resH m c := by
  refine (dats m 0 c).arrAt_eq_of_covers 13 _ (by decide +kernel) fun t hf y => ?_
  blk_simp
  rw [after0_13, outs_13]
  refine out_apply _ _ _ _ _ _ _ _ (rowOf t) y _ ?_ ?_
  · unfold rowOf
    blk_simp [ix_13]
  · blk_simp [ix_13]

end Cert.Kernel3Ideal.Hand

end
-- ==== Proof.MixingReference.lean ====
/- The mixing's reference, read at an index: the spatial gating, the group norm and the output projection, each stated of any
   arrays, then put together. -/
module

public import proofs.«01_k».proof.Proof.Math
public import proofs.«01_k».proof.Proof.Gen.Reference3Ideal
public import proofs.«01_k».proof.Proof.Gen.Reference3Ideal.Run
public import Idealize.ShloMosaic.Lib.Pointwise
public import Idealize.ShloMosaic.Lib.WordCmp
public import Idealize.ShloMosaic.Lib.Tactic.CleanTypes

@[expose] public section

set_option maxRecDepth 16384

noncomputable section

namespace Cert.Reference3Ideal.Hand

open Idealize.ShloMosaic Idealize.ShloMosaic.TcCoe Cert.Reference3Ideal Cert.Reference3Ideal.Gen Cert.Reference3Ideal.Value

/-- The weights of the mixing under the triangle of ones. -/
def lowerA (w : FVec Ideal S1x4x128x128 .f32) : FVec Ideal S4x128x128 .f32 :=
  mulf (shapeCast _ w shapeCasts_S1x4x128x128_S4x128x128) (broadcastInDim S4x128x128 ![0, 1, 2] bcast_S1x128x128_S4x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32)))))

/-- The product along the sequence, of any weights. -/
def seqA (v : FVec Ideal S16x2048x512 .f32) (w : FVec Ideal S4x128x128 .f32) : FVec Ideal S4x16x16x128x128 .f32 :=
  Host.dotGeneral dot_S16x16x128x4x128_S4x128x128_S4x16x16x128x128_2_2_014_1_3_0 none (shapeCast _ v shapeCasts_S16x2048x512_S16x16x128x4x128) w

/-- The bias added, in the order of the rows. -/
def biasA (z : FVec Ideal S4x16x16x128x128 .f32) (b : FVec Ideal S1x4x128 .f32) : FVec Ideal S16x2048x512 .f32 :=
  shapeCast _ (addf (transpose S16x16x128x4x128 [1, 2, 4, 0, 3] z transposes_S4x16x16x128x128_S16x16x128x4x128_1_2_4_0_3) (broadcastInDim S16x16x128x4x128 ![0, 1, 2, 3, 4] bcast_S1x1x128x4x1_S16x16x128x4x128_0_1_2_3_4 (broadcastInDim S1x1x128x4x1 ![2, 3] bcast_S128x4_S1x1x128x4x1_2_3 (transpose S128x4 [1, 0] (shapeCast _ b shapeCasts_S1x4x128_S4x128) transposes_S4x128_S128x4_1_0)))) shapeCasts_S16x16x128x4x128_S16x2048x512

/-- The gated values, by groups. -/
def gateA (u z : FVec Ideal S16x2048x512 .f32) : FVec Ideal S16x2048x4x128 .f32 :=
  shapeCast _ (mulf u z) shapeCasts_S16x2048x512_S16x2048x4x128

/-- The group norm. -/
def gnormA (z : FVec Ideal S16x2048x4x128 .f32) (g : FVec Ideal S1x4x128 .f32) : FVec Ideal S16x2048x512 .f32 :=
  shapeCast _ (mulf (mulf z (broadcastInDim S16x2048x4x128 ![0, 1, 2, 3] bcast_S16x2048x4x1_S16x2048x4x128_0_1_2_3 (Host.rsqrt (addf (Host.divf (broadcastInDim S16x2048x4x1 ![0, 1, 2] bcast_S16x2048x4_S16x2048x4x1_0_1_2 (Host.reduceAdd (mulf z z) (constant S_ .f32 0x00000000#32) reducesTo_S16x2048x4x128_S16x2048x4_d3 h_S_)) (broadcastInDim S16x2048x4x1 ![] bcast_S_S16x2048x4x1 (constant S_ .f32 0x43000000#32))) (broadcastInDim S16x2048x4x1 ![] bcast_S_S16x2048x4x1 (constant S_ .f32 0x358637BD#32)))))) (broadcastInDim S16x2048x4x128 ![0, 1, 2, 3] bcast_S1x1x4x128_S16x2048x4x128_0_1_2_3 (broadcastInDim S1x1x4x128 ![2, 3] bcast_S4x128_S1x1x4x128_2_3 (shapeCast _ g shapeCasts_S1x4x128_S4x128)))) shapeCasts_S16x2048x4x128_S16x2048x512

/-- The output projection of two halves, and the residual. -/
def outA (x : FVec Ideal S16x2048x1024 .f32) (a z : FVec Ideal S16x2048x512 .f32) (p : FVec Ideal S1x1024x1024 .f32) : FVec Ideal S32768x1024 .f32 :=
  shapeCast _ (addf x (Host.dotGeneral dot_S16x2048x1024_S1024x1024_S16x2048x1024_2_0_01_1_n_n none (concatenate S16x2048x1024 2 [⟨S16x2048x512, a⟩, ⟨S16x2048x512, z⟩] concatenates_S16x2048x512_S16x2048x512_S16x2048x1024_d2) (shapeCast _ p shapeCasts_S1x1024x1024_S1024x1024))) shapeCasts_S16x2048x1024_S32768x1024

/-- The whole, of the arguments. -/
def mixA (a u v : FVec Ideal S16x2048x512 .f32) (x : FVec Ideal S16x2048x1024 .f32) (w : FVec Ideal S1x4x128x128 .f32) (b g : FVec Ideal S1x4x128 .f32) (p : FVec Ideal S1x1024x1024 .f32) : FVec Ideal S32768x1024 .f32 :=
  outA x a (gnormA (gateA u (biasA (seqA v (lowerA w)) b)) g) p

variable (m : (ℓ : Loc nD τ sig) → Buf (Elt Ideal) ℓ) (c : Dev nD)

theorem res_mix : (res_out0 m c : FVec Ideal S32768x1024 .f32)
    = mixA (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) := by
  unfold res_out0 res_main_v36 mixA outA gnormA gateA biasA seqA lowerA
  rfl

/-! ## At an index -/

theorem select_sge {a b : ℕ} (ha : a < 2 ^ 31) (hb : b < 2 ^ 31) (u v : EReal) :
    Scalar.select (IntOp.cmpi .sge (BitVec.ofNat 32 a) (BitVec.ofNat 32 b)) u v = if b ≤ a then u else v := by
  rw [WordCmp.cmpi_sge_ofNat ha hb]
  by_cases h : b ≤ a <;> simp [h, Scalar.select]

theorem lowerA_apply (w : FVec Ideal S1x4x128x128 .f32) (g : Fin 4) (t s : Fin 128) :
    lowerA w (ix3 g t s) = if s.1 ≤ t.1 then w (ix4 0 g t s) else 0 := by
  unfold lowerA
  pointwise
  rw [show IntOp.addi (BitVec.ofNat 32 t.1) 0#32 = BitVec.ofNat 32 t.1 from BitVec.add_zero _]
  exact select_sge (by omega) (by omega) _ _

theorem seqA_apply (v : FVec Ideal S16x2048x512 .f32) (w : FVec Ideal S4x128x128 .f32) (g : Fin 4) (b k : Fin 16) (d t : Fin 128) :
    seqA v w (ix5 g b k d t) = ∑ s : Fin 128, v (ix3 b ⟨k.1 * 128 + s.1, by omega⟩ ⟨g.1 * 128 + d.1, by omega⟩) * w (ix3 g t s) := by
  unfold seqA
  pointwise

theorem biasA_apply (z : FVec Ideal S4x16x16x128x128 .f32) (c : FVec Ideal S1x4x128 .f32) (b : Fin 16) (x : Fin 2048) (k : Fin 512) :
    biasA z c (ix3 b x k) = z (ix5 ⟨k.1 / 128, by omega⟩ b ⟨x.1 / 128, by omega⟩ ⟨k.1 % 128, by omega⟩ ⟨x.1 % 128, by omega⟩) + c (ix3 0 ⟨k.1 / 128, by omega⟩ ⟨x.1 % 128, by omega⟩) := by
  unfold biasA
  pointwise

theorem gateA_apply (u z : FVec Ideal S16x2048x512 .f32) (b : Fin 16) (x : Fin 2048) (g : Fin 4) (d : Fin 128) :
    gateA u z (ix4 b x g d) = u (ix3 b x ⟨g.1 * 128 + d.1, by omega⟩) * z (ix3 b x ⟨g.1 * 128 + d.1, by omega⟩) := by
  unfold gateA
  pointwise

theorem gnormA_apply (z : FVec Ideal S16x2048x4x128 .f32) (g : FVec Ideal S1x4x128 .f32) (b : Fin 16) (x : Fin 2048) (k : Fin 512) :
    gnormA z g (ix3 b x k) = z (ix4 b x ⟨k.1 / 128, by omega⟩ ⟨k.1 % 128, by omega⟩) * Ideal.rsqrt (Ideal.div (∑ w : Fin 128, z (ix4 b x ⟨k.1 / 128, by omega⟩ w) * z (ix4 b x ⟨k.1 / 128, by omega⟩ w)) (Ideal.ofBits .f32 0x43000000#32) + Ideal.ofBits .f32 0x358637BD#32) * g (ix3 0 ⟨k.1 / 128, by omega⟩ ⟨k.1 % 128, by omega⟩) := by
  unfold gnormA
  pointwise

/-- The concatenated row. -/
theorem outA_apply (x : FVec Ideal S16x2048x1024 .f32) (a z : FVec Ideal S16x2048x512 .f32) (p : FVec Ideal S1x1024x1024 .f32) (b : Fin 16) (r : Fin 2048) (n : Fin 1024) :
    outA x a z p (ix2 ⟨b.1 * 2048 + r.1, by omega⟩ n) = x (ix3 b r n) + ((∑ k : Fin 512, a (ix3 b r k) * p (ix3 0 ⟨k.1, by omega⟩ n) : EReal) + ∑ k : Fin 512, z (ix3 b r k) * p (ix3 0 ⟨512 + k.1, by omega⟩ n)) := by
  unfold outA
  pointwise

/-! ## Put together -/

/-- The gate mixed along its chunk of the sequence. -/
def seqR (v : FVec Ideal S16x2048x512 .f32) (w : FVec Ideal S1x4x128x128 .f32) (c : FVec Ideal S1x4x128 .f32) (b : Fin 16) (x : Fin 2048) (k : Fin 512) : EReal :=
  (∑ s : Fin 128, v (ix3 b ⟨x.1 / 128 * 128 + s.1, by omega⟩ k) * (if s.1 ≤ x.1 % 128 then w (ix4 0 ⟨k.1 / 128, by omega⟩ ⟨x.1 % 128, by omega⟩ s) else 0 : EReal) : EReal)
    + c (ix3 0 ⟨k.1 / 128, by omega⟩ ⟨x.1 % 128, by omega⟩)

/-- … times the gate. -/
def gateR (u v : FVec Ideal S16x2048x512 .f32) (w : FVec Ideal S1x4x128x128 .f32) (c : FVec Ideal S1x4x128 .f32) (b : Fin 16) (x : Fin 2048) (k : Fin 512) : EReal :=
  u (ix3 b x k) * seqR v w c b x k

/-- … normed over its group. -/
def gnormR (u v : FVec Ideal S16x2048x512 .f32) (w : FVec Ideal S1x4x128x128 .f32) (c g : FVec Ideal S1x4x128 .f32) (b : Fin 16) (x : Fin 2048) (k : Fin 512) : EReal :=
  gateR u v w c b x k * Ideal.rsqrt (Ideal.div (∑ d : Fin 128, gateR u v w c b x ⟨k.1 / 128 * 128 + d.1, by omega⟩ * gateR u v w c b x ⟨k.1 / 128 * 128 + d.1, by omega⟩) (Ideal.ofBits .f32 0x43000000#32) + Ideal.ofBits .f32 0x358637BD#32)
    * g (ix3 0 ⟨k.1 / 128, by omega⟩ ⟨k.1 % 128, by omega⟩)

theorem div_mod_128 (k : Fin 512) : (⟨k.1 / 128 * 128 + k.1 % 128, by omega⟩ : Fin 512) = k := Fin.ext (by show k.1 / 128 * 128 + k.1 % 128 = k.1; omega)

theorem seq_apply (v : FVec Ideal S16x2048x512 .f32) (w : FVec Ideal S1x4x128x128 .f32) (c : FVec Ideal S1x4x128 .f32) (b : Fin 16) (x : Fin 2048) (k : Fin 512) :
    biasA (seqA v (lowerA w)) c (ix3 b x k) = seqR v w c b x k := by
  rw [biasA_apply, seqA_apply]
  unfold seqR
  refine congrArg (fun z : EReal => z + _) (Finset.sum_congr rfl fun s _ => ?_)
  rw [lowerA_apply, div_mod_128]

theorem gate_apply (u v : FVec Ideal S16x2048x512 .f32) (w : FVec Ideal S1x4x128x128 .f32) (c : FVec Ideal S1x4x128 .f32) (b : Fin 16) (x : Fin 2048) (g : Fin 4) (d : Fin 128) :
    gateA u (biasA (seqA v (lowerA w)) c) (ix4 b x g d) = gateR u v w c b x ⟨g.1 * 128 + d.1, by omega⟩ := by
  rw [gateA_apply, seq_apply]
  rfl

theorem gnorm_apply (u v : FVec Ideal S16x2048x512 .f32) (w : FVec Ideal S1x4x128x128 .f32) (c g : FVec Ideal S1x4x128 .f32) (b : Fin 16) (x : Fin 2048) (k : Fin 512) :
    gnormA (gateA u (biasA (seqA v (lowerA w)) c)) g (ix3 b x k) = gnormR u v w c g b x k := by
  rw [gnormA_apply, gate_apply, div_mod_128]
  unfold gnormR
  refine congrArg (fun z : EReal => _ * Ideal.rsqrt (Ideal.div z _ + _) * _) (Finset.sum_congr rfl fun d _ => ?_)
  rw [gate_apply]

theorem mixA_apply (a u v : FVec Ideal S16x2048x512 .f32) (x : FVec Ideal S16x2048x1024 .f32) (w : FVec Ideal S1x4x128x128 .f32) (c g : FVec Ideal S1x4x128 .f32) (p : FVec Ideal S1x1024x1024 .f32)
    (b : Fin 16) (r : Fin 2048) (n : Fin 1024) :
    mixA a u v x w c g p (ix2 ⟨b.1 * 2048 + r.1, by omega⟩ n)
      = x (ix3 b r n) + ((∑ k : Fin 512, a (ix3 b r k) * p (ix3 0 ⟨k.1, by omega⟩ n) : EReal) + ∑ k : Fin 512, gnormR u v w c g b r k * p (ix3 0 ⟨512 + k.1, by omega⟩ n)) := by
  unfold mixA
  rw [outA_apply]
  refine congrArg (fun z : EReal => _ + (_ + z)) (Finset.sum_congr rfl fun k _ => ?_)
  rw [gnorm_apply]

end Cert.Reference3Ideal.Hand

end
-- ==== Proof.Mixing.lean ====
/- The mixing's first result is the reference's, on any input: the kernel leaves out the terms above the triangle, the reference
   multiplies them by zero. -/
module

public import proofs.«01_k».proof.Proof.MixingArray
public import proofs.«01_k».proof.Proof.MixingReference

@[expose] public section

set_option maxRecDepth 16384

noncomputable section

namespace Cert.Kernel3Ideal.Hand

open Idealize.ShloMosaic Idealize.ShloMosaic.TcCoe Cert.Kernel3Ideal Cert.Kernel3Ideal.Gen Cert.Reference3Ideal.Hand

variable (m : (ℓ : Loc nD τ sig) → Buf (Elt Ideal) ℓ) (c : Dev nD)

theorem seq_ref (b : Fin 16) (x : Fin 2048) (k : Fin 512) :
    seqK (inV m c) (inW m c) (inB m c) ⟨b.1 * 2048 + x.1, by omega⟩ k = seqR (argV m c) (argW m c) (argB m c) b x k := by
  have et : (⟨(b.1 * 2048 + x.1) % 128, by omega⟩ : Fin 128) = ⟨x.1 % 128, by omega⟩ := Fin.ext (by show (b.1 * 2048 + x.1) % 128 = x.1 % 128; omega)
  have en : (b.1 * 2048 + x.1) % 128 = x.1 % 128 := by omega
  have es (s : Fin 128) : (⟨(b.1 * 2048 + x.1) / 128 * 128 + s.1, by omega⟩ : Fin 32768) = ⟨b.1 * 2048 + (x.1 / 128 * 128 + s.1), by omega⟩ :=
    Fin.ext (by show (b.1 * 2048 + x.1) / 128 * 128 + s.1 = b.1 * 2048 + (x.1 / 128 * 128 + s.1); omega)
  unfold seqK seqR
  dsimp only
  rw [et, inB_apply]
  refine congrArg (fun z : EReal => z + _) (Finset.sum_congr rfl fun s _ => ?_)
  rw [en, es, inW_apply]
  rw [show inV m c (ix2 ⟨b.1 * 2048 + (x.1 / 128 * 128 + s.1), by omega⟩ k) = argV m c (ix3 b ⟨x.1 / 128 * 128 + s.1, by omega⟩ k) from inV_apply m c b ⟨x.1 / 128 * 128 + s.1, by omega⟩ k]
  split
  · exact mul_comm _ _
  · exact (mul_zero _).symm

theorem gate_ref (b : Fin 16) (x : Fin 2048) (k : Fin 512) :
    gateK (inU m c) (inV m c) (inW m c) (inB m c) ⟨b.1 * 2048 + x.1, by omega⟩ k = gateR (argU m c) (argV m c) (argW m c) (argB m c) b x k := by
  unfold gateK gateR
  rw [seq_ref, inU_apply]

theorem gnorm_ref (b : Fin 16) (x : Fin 2048) (k : Fin 512) :
    gnormK (inU m c) (inV m c) (inW m c) (inB m c) (inN m c) ⟨b.1 * 2048 + x.1, by omega⟩ k = gnormR (argU m c) (argV m c) (argW m c) (argB m c) (argN m c) b x k := by
  unfold gnormK gnormR
  simp only [gate_ref, inN_apply]

theorem out_ref (b : Fin 16) (x : Fin 2048) (n : Fin 1024) :
    resH m c (ix2 ⟨b.1 * 2048 + x.1, by omega⟩ n)
      = mixA (argA m c) (argU m c) (argV m c) (argX m c) (argW m c) (argB m c) (argN m c) (argP m c) (ix2 ⟨b.1 * 2048 + x.1, by omega⟩ n) := by
  rw [mixA_apply]
  show inX m c (ix2 ⟨b.1 * 2048 + x.1, by omega⟩ n) + ((∑ k : Fin 512, inA m c (ix2 ⟨b.1 * 2048 + x.1, by omega⟩ k) * inP m c (ix2 ⟨k.1, by omega⟩ n) : EReal)
    + ∑ k : Fin 512, gnormK (inU m c) (inV m c) (inW m c) (inB m c) (inN m c) ⟨b.1 * 2048 + x.1, by omega⟩ k * inP m c (ix2 ⟨512 + k.1, by omega⟩ n) : EReal) = _
  simp only [gnorm_ref, inX_apply, inA_apply, inP_apply]

/-- The whole result. -/
theorem resH_ref : resH m c = mixA (argA m c) (argU m c) (argV m c) (argX m c) (argW m c) (argB m c) (argN m c) (argP m c) := by
  funext j
  obtain ⟨r, n, rfl⟩ : ∃ (r : Fin 32768) (n : Fin 1024), j = ix2 r n := ⟨j 0, j 1, eq_ix2 j⟩
  obtain ⟨b, x, rfl⟩ : ∃ (b : Fin 16) (x : Fin 2048), r = ⟨b.1 * 2048 + x.1, by omega⟩ :=
    ⟨⟨r.1 / 2048, by omega⟩, ⟨r.1 % 2048, by omega⟩, Fin.ext (by show r.1 = r.1 / 2048 * 2048 + r.1 % 2048; omega)⟩
  exact out_ref m c b x n

end Cert.Kernel3Ideal.Hand

end
-- ==== Proof.lean ====
/- Everything claimed of the attention call and of the input projection, assembled: the frames of the programs, the naming of the
   constants, the equality of the idealized attention's result with its reference's on finite inputs, and that of the idealized
   projection's four results with its reference's on any input. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Attention
public import proofs.«01_k».proof.Proof.Finite
public import proofs.«01_k».proof.Proof.Projection
public import proofs.«01_k».proof.Proof.Mixing
public import Idealize.ShloMosaic.Adequacy
public import Idealize.ShloMosaic.Init
public import Idealize.ShloMosaic.Lib.Quiescent
public import Idealize.ShloMosaic.Lib.Bf16PairInverse

@[expose] public section

noncomputable section

namespace Cert.Proof

open Idealize.ShloMosaic Idealize.SL.Sem

/-- The reference of the attention runs, keeps its arguments and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two named constants of the attention. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl⟩

open Cert.KernelIdeal.Hand Cert.ReferenceIdeal.Hand in
/-- The attention and its reference, on finite inputs. -/
theorem algebraic : Cert.algebraic_KernelIdeal_ReferenceIdeal_pre_finite (hPre_finite := Cert.Attn.facts) := by
  intro m g m' g' hp ha
  refine ⟨fun c => resG m c, ?_, ?_⟩
  · exact (θ_run Cert.KernelIdeal.defs _ _).mono (fun r h c => ⟨(h c).1.trans (arr_eq m c), (h c).2⟩) (Cert.KernelIdeal.Value.run_blocks (F := Ideal) m g)
  · refine (θ_run Cert.ReferenceIdeal.defs _ _).mono (fun r h c => ⟨(h c).1.trans ?_, (h c).2⟩) (Cert.ReferenceIdeal.Value.run (F := Ideal) m' g')
    obtain ⟨⟨hq, hk, hv⟩, h0, h1, h2, h3⟩ := Cert.Attn.reals (argQ m c) (argK m c) (argV m c) (argL0 m c) (argL1 m c) (argL2 m c) (argL3 m c) (argG m c) (hp c)
    obtain ⟨e0, e1, e2, e3, e4, e5, e6, e7⟩ := ha c
    choose q hq using hq
    choose k hk using hk
    choose v hv using hv
    choose l0 h0 using h0
    choose l1 h1 using h1
    choose l2 h2 using h2
    choose l3 h3 using h3
    refine (res_stages m' c).trans ?_
    rw [e0, e1, e2, e3, e4, e5, e6, e7]
    exact (Cert.Attn.res_eq m c q k v hq hk hv l0 l1 l2 l3 h0 h1 h2 h3).symm

/-- The reference of the input projection runs, keeps its arguments and has no semaphore. -/
theorem frame_reference2 : Cert.quiescent_Reference2Ideal := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

/-- The named constant of the input projection. -/
theorem preserves2 : Cert.preserves_Kernel2_Kernel2Ideal :=
  IdealRules.named_const.statement Cert.Kernel2Ideal.κ "rsqrt2" .f32 0x3F3504F3#32 (((Real.sqrt 2)⁻¹ : ℝ) : EReal) rfl

open Cert.Kernel2Ideal.Hand Cert.Reference2Ideal.Hand in
/-- The reference's projection, its arguments being the kernel's. -/
theorem proj_args (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (e0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (e2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (e3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) :
    projR m' c = projK m c := by
  unfold projR projK
  rw [e0, e2, e3]
  rfl

open Cert.Kernel2Ideal.Hand Cert.Reference2Ideal.Hand in
/-- The input projection and its reference, on any input. -/
theorem algebraic2 : Cert.algebraic_Kernel2Ideal_Reference2Ideal := by
  intro m g m' g' _ ha
  refine ⟨fun c => resQK m c, fun c => resV m c, fun c => resU m c, fun c => resN m c, ?_, ?_⟩
  · exact (θ_run Cert.Kernel2Ideal.defs _ _).mono
      (fun r h c => ⟨(h c).1.trans (arr_10 m c), (h c).2.1.trans (arr_11 m c), (h c).2.2.1.trans (arr_12 m c), (h c).2.2.2.1.trans (arr_13 m c), (h c).2.2.2.2⟩)
      (Cert.Kernel2Ideal.Value.run_blocks (F := Ideal) m g)
  · refine (θ_run Cert.Reference2Ideal.defs _ _).mono
      (fun r h c => ⟨(h c).1.trans ?_, (h c).2.1.trans ?_, (h c).2.2.1.trans ?_, (h c).2.2.2.1.trans ?_, (h c).2.2.2.2⟩)
      (Cert.Reference2Ideal.Value.run (F := Ideal) m' g')
    all_goals
      obtain ⟨e0, e1, e2, e3, e4, e5, e6, e7⟩ := ha c
      have ep := proj_args m m' c e0 e2 e3
    · refine (res_qk m' c).trans ?_
      rw [ep, e1, e4, e5]
      exact (resQK_ref m c).symm
    · refine Eq.trans (b := flatA (partV (projR m' c))) rfl ?_
      rw [ep]
      exact (resV_ref m c).symm
    · refine Eq.trans (b := flatA (geluA (partU (projR m' c)))) rfl ?_
      rw [ep]
      exact (resU_ref m c).symm
    · refine (res_n m' c).trans ?_
      rw [ep, e6, e7]
      exact (resN_ref m c).symm

/-- The reference of the mixing runs, keeps its arguments and has no semaphore. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The packed rows of the mixing's second result, its array and its block, and the words stored into it. -/
theorem preserves3 : Cert.preserves_Kernel3_Kernel3Ideal :=
  ⟨IdealRules.bf16_pair.bufferStatement _ _, IdealRules.bf16_pair.bufferStatement _ _, IdealRules.bf16_pair.packStatement _, IdealRules.bf16_pair.statement _ _⟩

open Cert.Kernel3Ideal.Hand Cert.Reference3Ideal.Hand in
/-- The mixing's first result and its reference, on any input. -/
theorem algebraic3 : Cert.algebraic_Kernel3Ideal_Reference3Ideal := by
  intro m g m' g' _ ha
  refine ⟨fun c => resH m c, ?_, ?_⟩
  · exact (θ_run Cert.Kernel3Ideal.defs _ _).mono (fun r h c => ⟨(h c).1.trans (arr_13 m c), (h c).2.2.2.2.2⟩) (Cert.Kernel3Ideal.Value.run_blocks (F := Ideal) m g)
  · refine (θ_run Cert.Reference3Ideal.defs _ _).mono (fun r h c => ⟨(h c).1.trans ?_, (h c).2⟩) (Cert.Reference3Ideal.Value.run (F := Ideal) m' g')
    obtain ⟨e0, e1, e2, e3, e4, e5, e6, e7, _⟩ := ha c
    refine (res_mix m' c).trans ?_
    rw [e0, e1, e2, e3, e4, e5, e6, e7]
    exact (resH_ref m c).symm

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Attn.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    preserves, algebraic, preserves2, algebraic2, preserves3, algebraic3⟩

end Cert.Proof

end
